-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 4096]⟩ : Shape).Idx, (Layout.block ⟨2, ![512, 4096]⟩ ⟨2, ![8192, 4096]⟩ 0 16 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![512, 4096]⟩ : Shape).Idx → _) i = 1#1 → r.2.mem ((c.tc : Thread Cert.KernelIdeal.nD Cert.KernelIdeal.τ).loc Cert.KernelIdeal.main_v20) i = (Layout.block ⟨2, ![512, 4096]⟩ ⟨2, ![8192, 4096]⟩ 0 16 c v0 : (⟨2, ![512, 4096]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![8192, 4096]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_on_unclipped (hKernelIdeal := hKernelIdeal) (hReferenceIdeal := hReferenceIdeal) (hOn_unclipped := hOn_unclipped)
-- ==== On_unclipped.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_cst : FVec F S_ .f32 := constant S_ .f32 0xC2700000#32
  let main_v1 : FVec F S8192x4096 .f32 := broadcastInDim S8192x4096 ![] bcast_S_S8192x4096 main_cst
  let main_v2 : IVec S8192x4096 1 := cmpf .oge main_v0 main_v1
  let main_cst_0 : FVec F S_ .f32 := constant S_ .f32 0x42700000#32
  let main_v3 : FVec F S8192x4096 .f32 := broadcastInDim S8192x4096 ![] bcast_S_S8192x4096 main_cst_0
  let main_v4 : IVec S8192x4096 1 := cmpf .ole main_v0 main_v3
  let main_v5 : IVec S8192x4096 1 := andi main_v2 main_v4
  main_v5
-- ==== Kernel.lean ====
abbrev S8192x512 : Shape := ⟨2, ![8192, 512]⟩
abbrev S8192x4096 : Shape := ⟨2, ![8192, 4096]⟩
abbrev S_ : Shape := ⟨0, ![]⟩
abbrev S16 : Shape := ⟨1, ![16]⟩
abbrev S512x4096 : Shape := ⟨2, ![512, 4096]⟩
abbrev S1 : Shape := ⟨1, ![1]⟩
abbrev S2x2048x512 : Shape := ⟨3, ![2, 2048, 512]⟩
abbrev S16x512x512 : Shape := ⟨3, ![16, 512, 512]⟩
abbrev S2 : Shape := ⟨1, ![2]⟩
abbrev S1x16 : Shape := ⟨2, ![1, 16]⟩
abbrev S1x2048x512 : Shape := ⟨3, ![1, 2048, 512]⟩
abbrev S2048x512 : Shape := ⟨2, ![2048, 512]⟩
abbrev S1x1 : Shape := ⟨2, ![1, 1]⟩
abbrev S1x512x512 : Shape := ⟨3, ![1, 512, 512]⟩
abbrev S512x512 : Shape := ⟨2, ![512, 512]⟩

abbrev nBuf : Space → Nat
  | .hbm => 133
  | .vmem => 6
  | .smem => 1
  | _ => 0

abbrev hbmTy0_0 (i : Nat) : BufTy := match i % 128 with
  | 0 => ⟨S8192x512, .f32⟩
  | 1 => ⟨S8192x4096, .f32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S16, .i32⟩
  | 9 => ⟨S_, .i32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i1⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S16, .i32⟩
  | 27 => ⟨S16, .i32⟩
  | 28 => ⟨S16, .i32⟩
  | 29 => ⟨S_, .i32⟩
  | 30 => ⟨S16, .i32⟩
  | 31 => ⟨S16, .i1⟩
  | 32 => ⟨S16, .i32⟩
  | 33 => ⟨S16, .i32⟩
  | 34 => ⟨S_, .i32⟩
  | 35 => ⟨S16, .i32⟩
  | 36 => ⟨S16, .i1⟩
  | 37 => ⟨S16, .i1⟩
  | 38 => ⟨S_, .i32⟩
  | 39 => ⟨S16, .i32⟩
  | 40 => ⟨S16, .i32⟩
  | 41 => ⟨S16, .i32⟩
  | 42 => ⟨S16, .i32⟩
  | 43 => ⟨S16, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S16, .i32⟩
  | 51 => ⟨S16, .i32⟩
  | 52 => ⟨S_, .i32⟩
  | 53 => ⟨S16, .i32⟩
  | 54 => ⟨S16, .i1⟩
  | 55 => ⟨S_, .i32⟩
  | 56 => ⟨S16, .i32⟩
  | 57 => ⟨S16, .i1⟩
  | 58 => ⟨S_, .i32⟩
  | 59 => ⟨S_, .i1⟩
  | 60 => ⟨S16, .i1⟩
  | 61 => ⟨S16, .i1⟩
  | 62 => ⟨S16, .i1⟩
  | 63 => ⟨S16, .i32⟩
  | 64 => ⟨S16, .i32⟩
  | 65 => ⟨S16, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i1⟩
  | 77 => ⟨S_, .i32⟩
  | 78 => ⟨S_, .i1⟩
  | 79 => ⟨S_, .i1⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S16, .i32⟩
  | 90 => ⟨S16, .i32⟩
  | 91 => ⟨S_, .i32⟩
  | 92 => ⟨S16, .i32⟩
  | 93 => ⟨S16, .i1⟩
  | 94 => ⟨S_, .i32⟩
  | 95 => ⟨S16, .i32⟩
  | 96 => ⟨S16, .i1⟩
  | 97 => ⟨S_, .i32⟩
  | 98 => ⟨S_, .i1⟩
  | 99 => ⟨S16, .i1⟩
  | 100 => ⟨S16, .i1⟩
  | 101 => ⟨S16, .i1⟩
  | 102 => ⟨S16, .i32⟩
  | 103 => ⟨S16, .i32⟩
  | 104 => ⟨S16, .i32⟩
  | 105 => ⟨S16, .i32⟩
  | 106 => ⟨S16, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S16, .i32⟩
  | 114 => ⟨S16, .i32⟩
  | 115 => ⟨S_, .i32⟩
  | 116 => ⟨S16, .i32⟩
  | 117 => ⟨S16, .i1⟩
  | 118 => ⟨S_, .i32⟩
  | 119 => ⟨S16, .i32⟩
  | 120 => ⟨S16, .i1⟩
  | 121 => ⟨S_, .i32⟩
  | 122 => ⟨S_, .i1⟩
  | 123 => ⟨S16, .i1⟩
  | 124 => ⟨S16, .i1⟩
  | 125 => ⟨S16, .i1⟩
  | 126 => ⟨S16, .i32⟩
  | 127 => ⟨S16, .i32⟩
  | _ => ⟨S8192x512, .f32⟩

abbrev hbmTy0_1 (i : Nat) : BufTy := match i % 128 with
  | 0 => ⟨S16, .i32⟩
  | 1 => ⟨S_, .i32⟩
  | 2 => ⟨S16, .i32⟩
  | 3 => ⟨S16, .i32⟩
  | 4 => ⟨S512x4096, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S2x2048x512, .f32⟩
  | .local _ .vmem, ⟨4, _⟩ => ⟨S8192x512, .bf16⟩
  | .local _ .vmem, ⟨5, _⟩ => ⟨S16x512x512, .bf16⟩
  | .local _ .smem, ⟨0, _⟩ => ⟨S16, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c : Ref sig .tc := ⟨.hbm, 16, rfl⟩
abbrev main_call0_v6 : Ref sig .tc := ⟨.hbm, 17, rfl⟩
abbrev main_call0_v7 : Ref sig .tc := ⟨.hbm, 18, rfl⟩
abbrev main_call0_c_0 : Ref sig .tc := ⟨.hbm, 19, rfl⟩
abbrev main_call0_v8 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_c_4 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v11 : Ref sig .tc := ⟨.hbm, 65, rfl⟩
abbrev main_c_5 : Ref sig .tc := ⟨.hbm, 66, rfl⟩
abbrev main_call3_v0 : Ref sig .tc := ⟨.hbm, 67, rfl⟩
abbrev main_call3_c : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_c_1 : Ref sig .tc := ⟨.hbm, 73, rfl⟩
abbrev main_call3_v4 : Ref sig .tc := ⟨.hbm, 74, rfl⟩
abbrev main_call3_c_2 : Ref sig .tc := ⟨.hbm, 75, rfl⟩
abbrev main_call3_v5 : Ref sig .tc := ⟨.hbm, 76, rfl⟩
abbrev main_call3_c_3 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_v12 : Ref sig .tc := ⟨.hbm, 82, rfl⟩
abbrev main_c_6 : Ref sig .tc := ⟨.hbm, 83, rfl⟩
abbrev main_call4_v0 : Ref sig .tc := ⟨.hbm, 84, rfl⟩
abbrev main_call4_c : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_c_1 : Ref sig .tc := ⟨.hbm, 91, rfl⟩
abbrev main_call4_v5 : Ref sig .tc := ⟨.hbm, 92, rfl⟩
abbrev main_call4_v6 : Ref sig .tc := ⟨.hbm, 93, rfl⟩
abbrev main_call4_c_2 : Ref sig .tc := ⟨.hbm, 94, rfl⟩
abbrev main_call4_v7 : Ref sig .tc := ⟨.hbm, 95, rfl⟩
abbrev main_call4_v8 : Ref sig .tc := ⟨.hbm, 96, rfl⟩
abbrev main_call4_c_3 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_v12 : Ref sig .tc := ⟨.hbm, 101, rfl⟩
abbrev main_call4_v13 : Ref sig .tc := ⟨.hbm, 102, rfl⟩
abbrev main_call4_v14 : Ref sig .tc := ⟨.hbm, 103, rfl⟩
abbrev main_v13 : Ref sig .tc := ⟨.hbm, 104, rfl⟩
abbrev main_v14 : Ref sig .tc := ⟨.hbm, 105, rfl⟩
abbrev main_v15 : Ref sig .tc := ⟨.hbm, 106, rfl⟩
abbrev main_c_7 : Ref sig .tc := ⟨.hbm, 107, rfl⟩
abbrev main_call5_v0 : Ref sig .tc := ⟨.hbm, 108, rfl⟩
abbrev main_call5_c : Ref sig .tc := ⟨.hbm, 109, rfl⟩
abbrev main_call5_v1 : Ref sig .tc := ⟨.hbm, 110, rfl⟩
abbrev main_call5_c_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_c_1 : Ref sig .tc := ⟨.hbm, 115, rfl⟩
abbrev main_call5_v5 : Ref sig .tc := ⟨.hbm, 116, rfl⟩
abbrev main_call5_v6 : Ref sig .tc := ⟨.hbm, 117, rfl⟩
abbrev main_call5_c_2 : Ref sig .tc := ⟨.hbm, 118, rfl⟩
abbrev main_call5_v7 : Ref sig .tc := ⟨.hbm, 119, rfl⟩
abbrev main_call5_v8 : Ref sig .tc := ⟨.hbm, 120, rfl⟩
abbrev main_call5_c_3 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_v12 : Ref sig .tc := ⟨.hbm, 125, rfl⟩
abbrev main_call5_v13 : Ref sig .tc := ⟨.hbm, 126, rfl⟩
abbrev main_call5_v14 : Ref sig .tc := ⟨.hbm, 127, rfl⟩
abbrev main_v16 : Ref sig .tc := ⟨.hbm, 128, rfl⟩
abbrev main_c_8 : Ref sig .tc := ⟨.hbm, 129, rfl⟩
abbrev main_v17 : Ref sig .tc := ⟨.hbm, 130, rfl⟩
abbrev main_v18 : Ref sig .tc := ⟨.hbm, 131, rfl⟩
abbrev main_v20 : Ref sig .tc := ⟨.hbm, 132, rfl⟩
abbrev main_v19 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem0_1 : DmaSem sig := 1
abbrev cc0_sem1_0 : DmaSem sig := 2
abbrev barrier0 : Sem sig := 0

abbrev nD : Nat := 16
abbrev τ : Topo := Topo.v7x

variable {F : FTy → Type} [FloatOps F]

abbrev grid0 : Pipeline.Grid := ⟨1, ![16], ![false]⟩

abbrev pre0 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v30 : Index := Scalar.indexCast arg0
  ![v30.toNat]
def k0_cond1 (i : grid0.Coords) : BitVec 1 :=
  let arg0 : BitVec 32 := BitVec.ofNat 32 (i 0).val
  let c0_i32_11 : BitVec 32 := 0#32
  let v32 : BitVec 1 := Scalar.cmpi .eq arg0 c0_i32_11
  let v33 : BitVec 32 := Scalar.extui v32
  let c0_i32_12 : BitVec 32 := 0#32
  let v34 : BitVec 1 := Scalar.cmpi .ne v33 c0_i32_12
  v34

def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v63 : BitVec 32 := Scalar.addi v2 c1_i32_26
  let c16_i32_27 : BitVec 32 := 16#32
  let v64 : BitVec 32 := Scalar.remsi v63 c16_i32_27
  let c1_i32_29 : BitVec 32 := 1#32
  let v65 : BitVec 32 := Scalar.muli v64 c1_i32_29
  let v66 : BitVec 32 := Scalar.addi c0_i32_30 v65
  v66.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v67 : BitVec 32 := Scalar.addi v2 c2_i32
  let c16_i32_31 : BitVec 32 := 16#32
  let v68 : BitVec 32 := Scalar.remsi v67 c16_i32_31
  let c1_i32_33 : BitVec 32 := 1#32
  let v69 : BitVec 32 := Scalar.muli v68 c1_i32_33
  let v70 : BitVec 32 := Scalar.addi c0_i32_34 v69
  v70.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v71 : BitVec 32 := Scalar.addi v2 c3_i32
  let c16_i32_35 : BitVec 32 := 16#32
  let v72 : BitVec 32 := Scalar.remsi v71 c16_i32_35
  let c1_i32_37 : BitVec 32 := 1#32
  let v73 : BitVec 32 := Scalar.muli v72 c1_i32_37
  let v74 : BitVec 32 := Scalar.addi c0_i32_38 v73
  v74.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v75 : BitVec 32 := Scalar.addi v2 c4_i32_39
  let c16_i32_40 : BitVec 32 := 16#32
  let v76 : BitVec 32 := Scalar.remsi v75 c16_i32_40
  let c1_i32_42 : BitVec 32 := 1#32
  let v77 : BitVec 32 := Scalar.muli v76 c1_i32_42
  let v78 : BitVec 32 := Scalar.addi c0_i32_43 v77
  v78.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v79 : BitVec 32 := Scalar.addi v2 c5_i32
  let c16_i32_44 : BitVec 32 := 16#32
  let v80 : BitVec 32 := Scalar.remsi v79 c16_i32_44
  let c1_i32_46 : BitVec 32 := 1#32
  let v81 : BitVec 32 := Scalar.muli v80 c1_i32_46
  let v82 : BitVec 32 := Scalar.addi c0_i32_47 v81
  v82.toNat
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v83 : BitVec 32 := Scalar.addi v2 c6_i32
  let c16_i32_48 : BitVec 32 := 16#32
  let v84 : BitVec 32 := Scalar.remsi v83 c16_i32_48
  let c1_i32_50 : BitVec 32 := 1#32
  let v85 : BitVec 32 := Scalar.muli v84 c1_i32_50
  let v86 : BitVec 32 := Scalar.addi c0_i32_51 v85
  v86.toNat
def k0_dev7 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v87 : BitVec 32 := Scalar.addi v2 c7_i32
  let c16_i32_52 : BitVec 32 := 16#32
  let v88 : BitVec 32 := Scalar.remsi v87 c16_i32_52
  let c1_i32_54 : BitVec 32 := 1#32
  let v89 : BitVec 32 := Scalar.muli v88 c1_i32_54
  let v90 : BitVec 32 := Scalar.addi c0_i32_55 v89
  v90.toNat
def k0_dev8 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v91 : BitVec 32 := Scalar.addi v2 c8_i32
  let c16_i32_56 : BitVec 32 := 16#32
  let v92 : BitVec 32 := Scalar.remsi v91 c16_i32_56
  let c1_i32_58 : BitVec 32 := 1#32
  let v93 : BitVec 32 := Scalar.muli v92 c1_i32_58
  let v94 : BitVec 32 := Scalar.addi c0_i32_59 v93
  v94.toNat
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v95 : BitVec 32 := Scalar.addi v2 c9_i32
  let c16_i32_60 : BitVec 32 := 16#32
  let v96 : BitVec 32 := Scalar.remsi v95 c16_i32_60
  let c1_i32_62 : BitVec 32 := 1#32
  let v97 : BitVec 32 := Scalar.muli v96 c1_i32_62
  let v98 : BitVec 32 := Scalar.addi c0_i32_63 v97
  v98.toNat
def k0_dev10 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v99 : BitVec 32 := Scalar.addi v2 c10_i32
  let c16_i32_64 : BitVec 32 := 16#32
  let v100 : BitVec 32 := Scalar.remsi v99 c16_i32_64
  let c1_i32_66 : BitVec 32 := 1#32
  let v101 : BitVec 32 := Scalar.muli v100 c1_i32_66
  let v102 : BitVec 32 := Scalar.addi c0_i32_67 v101
  v102.toNat
def k0_dev11 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v103 : BitVec 32 := Scalar.addi v2 c11_i32
  let c16_i32_68 : BitVec 32 := 16#32
  let v104 : BitVec 32 := Scalar.remsi v103 c16_i32_68
  let c1_i32_70 : BitVec 32 := 1#32
  let v105 : BitVec 32 := Scalar.muli v104 c1_i32_70
  let v106 : BitVec 32 := Scalar.addi c0_i32_71 v105
  v106.toNat
def k0_dev12 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v107 : BitVec 32 := Scalar.addi v2 c12_i32
  let c16_i32_72 : BitVec 32 := 16#32
  let v108 : BitVec 32 := Scalar.remsi v107 c16_i32_72
  let c1_i32_74 : BitVec 32 := 1#32
  let v109 : BitVec 32 := Scalar.muli v108 c1_i32_74
  let v110 : BitVec 32 := Scalar.addi c0_i32_75 v109
  v110.toNat
def k0_dev13 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v111 : BitVec 32 := Scalar.addi v2 c13_i32
  let c16_i32_76 : BitVec 32 := 16#32
  let v112 : BitVec 32 := Scalar.remsi v111 c16_i32_76
  let c1_i32_78 : BitVec 32 := 1#32
  let v113 : BitVec 32 := Scalar.muli v112 c1_i32_78
  let v114 : BitVec 32 := Scalar.addi c0_i32_79 v113
  v114.toNat
def k0_dev14 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v115 : BitVec 32 := Scalar.addi v2 c14_i32
  let c16_i32_80 : BitVec 32 := 16#32
  let v116 : BitVec 32 := Scalar.remsi v115 c16_i32_80
  let c1_i32_82 : BitVec 32 := 1#32
  let v117 : BitVec 32 := Scalar.muli v116 c1_i32_82
  let v118 : BitVec 32 := Scalar.addi c0_i32_83 v117
  v118.toNat
def k0_dev15 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_84 : BitVec 32 := 15#32
  let v119 : BitVec 32 := Scalar.addi v2 c15_i32_84
  let c16_i32_85 : BitVec 32 := 16#32
  let v120 : BitVec 32 := Scalar.remsi v119 c16_i32_85
  let c1_i32_87 : BitVec 32 := 1#32
  let v121 : BitVec 32 := Scalar.muli v120 c1_i32_87
  let v122 : BitVec 32 := Scalar.addi c0_i32_88 v121
  v122.toNat
def k0_off3 (d0 : Dev nD) (c0_i32_95 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_94 : BitVec 32 := 1#32
  let v125 : BitVec 32 := Scalar.addi v19 c1_i32_94
  let v126 : BitVec 32 := Scalar.addi v125 c0_i32_95
  let c4_i32_96 : BitVec 32 := 4#32
  let v127 : BitVec 32 := Scalar.remsi v126 c4_i32_96
  let c2048_i32 : BitVec 32 := 2048#32
  let v128 : BitVec 32 := Scalar.muli v127 c2048_i32
  let c0_i32_101 : BitVec 32 := 0#32
  ![v128.toNat, 0]
def k0_off4 (d0 : Dev nD) (c0_i32_103 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let v135 : BitVec 32 := Scalar.addi v134 c0_i32_103
  let c4_i32_104 : BitVec 32 := 4#32
  let v136 : BitVec 32 := Scalar.remsi v135 c4_i32_104
  let c2048_i32_123 : BitVec 32 := 2048#32
  let v155 : BitVec 32 := Scalar.muli v136 c2048_i32_123
  let v156 : Index := Scalar.indexCast v155
  let c0_124 : Index := 0#32
  ![v156.toNat, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_125 : BitVec 32 := 4#32
  let v160 : BitVec 32 := Scalar.muli v136 c4_i32_125
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_126 : BitVec 32 := 0#32
  let v161 : BitVec 32 := Scalar.addi v29 c0_i32_126
  let c4_i32_127 : BitVec 32 := 4#32
  let v162 : BitVec 32 := Scalar.remsi v161 c4_i32_127
  let v163 : BitVec 32 := Scalar.addi v160 v162
  let v164 : BitVec 1 := Scalar.cmpi .ne v163 v2
  let v165 : BitVec 32 := Scalar.extui v164
  let c0_i32_128 : BitVec 32 := 0#32
  let v166 : BitVec 1 := Scalar.cmpi .ne v165 c0_i32_128
  v166

def k0_off5 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_125 : BitVec 32 := 4#32
  let v160 : BitVec 32 := Scalar.muli v136 c4_i32_125
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_126 : BitVec 32 := 0#32
  let v161 : BitVec 32 := Scalar.addi v29 c0_i32_126
  let c4_i32_127 : BitVec 32 := 4#32
  let v162 : BitVec 32 := Scalar.remsi v161 c4_i32_127
  let v163 : BitVec 32 := Scalar.addi v160 v162
  ![0, v163.toNat]
def k0_off6 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_125 : BitVec 32 := 4#32
  let v160 : BitVec 32 := Scalar.muli v136 c4_i32_125
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_126 : BitVec 32 := 0#32
  let v161 : BitVec 32 := Scalar.addi v29 c0_i32_126
  let c4_i32_127 : BitVec 32 := 4#32
  let v162 : BitVec 32 := Scalar.remsi v161 c4_i32_127
  let v163 : BitVec 32 := Scalar.addi v160 v162
  let c512_i32_248 : BitVec 32 := 512#32
  let v341 : BitVec 32 := Scalar.muli v163 c512_i32_248
  let c0_i32_249 : BitVec 32 := 0#32
  let v342 : BitVec 32 := Scalar.addi v341 c0_i32_249
  let c0_i32_256 : BitVec 32 := 0#32
  ![v342.toNat, 0]
def k0_dev16 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_125 : BitVec 32 := 4#32
  let v160 : BitVec 32 := Scalar.muli v136 c4_i32_125
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_126 : BitVec 32 := 0#32
  let v161 : BitVec 32 := Scalar.addi v29 c0_i32_126
  let c4_i32_127 : BitVec 32 := 4#32
  let v162 : BitVec 32 := Scalar.remsi v161 c4_i32_127
  let v163 : BitVec 32 := Scalar.addi v160 v162
  let c1_i32_252 : BitVec 32 := 1#32
  let v343 : BitVec 32 := Scalar.muli v163 c1_i32_252
  let v344 : BitVec 32 := Scalar.addi c0_i32_253 v343
  v344.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_129 : BitVec 32 := 4#32
  let v167 : BitVec 32 := Scalar.muli v136 c4_i32_129
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_130 : BitVec 32 := 1#32
  let v168 : BitVec 32 := Scalar.addi v29 c1_i32_130
  let c4_i32_131 : BitVec 32 := 4#32
  let v169 : BitVec 32 := Scalar.remsi v168 c4_i32_131
  let v170 : BitVec 32 := Scalar.addi v167 v169
  let v171 : BitVec 1 := Scalar.cmpi .ne v170 v2
  let v172 : BitVec 32 := Scalar.extui v171
  let c0_i32_132 : BitVec 32 := 0#32
  let v173 : BitVec 1 := Scalar.cmpi .ne v172 c0_i32_132
  v173

def k0_off9 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_129 : BitVec 32 := 4#32
  let v167 : BitVec 32 := Scalar.muli v136 c4_i32_129
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_130 : BitVec 32 := 1#32
  let v168 : BitVec 32 := Scalar.addi v29 c1_i32_130
  let c4_i32_131 : BitVec 32 := 4#32
  let v169 : BitVec 32 := Scalar.remsi v168 c4_i32_131
  let v170 : BitVec 32 := Scalar.addi v167 v169
  ![0, v170.toNat]
def k0_off10 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_129 : BitVec 32 := 4#32
  let v167 : BitVec 32 := Scalar.muli v136 c4_i32_129
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_130 : BitVec 32 := 1#32
  let v168 : BitVec 32 := Scalar.addi v29 c1_i32_130
  let c4_i32_131 : BitVec 32 := 4#32
  let v169 : BitVec 32 := Scalar.remsi v168 c4_i32_131
  let v170 : BitVec 32 := Scalar.addi v167 v169
  let c512_i32_248 : BitVec 32 := 512#32
  let v341 : BitVec 32 := Scalar.muli v170 c512_i32_248
  let c0_i32_249 : BitVec 32 := 0#32
  let v342 : BitVec 32 := Scalar.addi v341 c0_i32_249
  let c0_i32_256 : BitVec 32 := 0#32
  ![v342.toNat, 0]
def k0_dev17 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_129 : BitVec 32 := 4#32
  let v167 : BitVec 32 := Scalar.muli v136 c4_i32_129
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_130 : BitVec 32 := 1#32
  let v168 : BitVec 32 := Scalar.addi v29 c1_i32_130
  let c4_i32_131 : BitVec 32 := 4#32
  let v169 : BitVec 32 := Scalar.remsi v168 c4_i32_131
  let v170 : BitVec 32 := Scalar.addi v167 v169
  let c1_i32_252 : BitVec 32 := 1#32
  let v343 : BitVec 32 := Scalar.muli v170 c1_i32_252
  let v344 : BitVec 32 := Scalar.addi c0_i32_253 v343
  v344.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_133 : BitVec 32 := 4#32
  let v174 : BitVec 32 := Scalar.muli v136 c4_i32_133
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_134 : BitVec 32 := 2#32
  let v175 : BitVec 32 := Scalar.addi v29 c2_i32_134
  let c4_i32_135 : BitVec 32 := 4#32
  let v176 : BitVec 32 := Scalar.remsi v175 c4_i32_135
  let v177 : BitVec 32 := Scalar.addi v174 v176
  let v178 : BitVec 1 := Scalar.cmpi .ne v177 v2
  let v179 : BitVec 32 := Scalar.extui v178
  let c0_i32_136 : BitVec 32 := 0#32
  let v180 : BitVec 1 := Scalar.cmpi .ne v179 c0_i32_136
  v180

def k0_off13 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_133 : BitVec 32 := 4#32
  let v174 : BitVec 32 := Scalar.muli v136 c4_i32_133
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_134 : BitVec 32 := 2#32
  let v175 : BitVec 32 := Scalar.addi v29 c2_i32_134
  let c4_i32_135 : BitVec 32 := 4#32
  let v176 : BitVec 32 := Scalar.remsi v175 c4_i32_135
  let v177 : BitVec 32 := Scalar.addi v174 v176
  ![0, v177.toNat]
def k0_off14 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_133 : BitVec 32 := 4#32
  let v174 : BitVec 32 := Scalar.muli v136 c4_i32_133
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_134 : BitVec 32 := 2#32
  let v175 : BitVec 32 := Scalar.addi v29 c2_i32_134
  let c4_i32_135 : BitVec 32 := 4#32
  let v176 : BitVec 32 := Scalar.remsi v175 c4_i32_135
  let v177 : BitVec 32 := Scalar.addi v174 v176
  let c512_i32_248 : BitVec 32 := 512#32
  let v341 : BitVec 32 := Scalar.muli v177 c512_i32_248
  let c0_i32_249 : BitVec 32 := 0#32
  let v342 : BitVec 32 := Scalar.addi v341 c0_i32_249
  let c0_i32_256 : BitVec 32 := 0#32
  ![v342.toNat, 0]
def k0_dev18 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_133 : BitVec 32 := 4#32
  let v174 : BitVec 32 := Scalar.muli v136 c4_i32_133
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_134 : BitVec 32 := 2#32
  let v175 : BitVec 32 := Scalar.addi v29 c2_i32_134
  let c4_i32_135 : BitVec 32 := 4#32
  let v176 : BitVec 32 := Scalar.remsi v175 c4_i32_135
  let v177 : BitVec 32 := Scalar.addi v174 v176
  let c1_i32_252 : BitVec 32 := 1#32
  let v343 : BitVec 32 := Scalar.muli v177 c1_i32_252
  let v344 : BitVec 32 := Scalar.addi c0_i32_253 v343
  v344.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_137 : BitVec 32 := 4#32
  let v181 : BitVec 32 := Scalar.muli v136 c4_i32_137
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_138 : BitVec 32 := 3#32
  let v182 : BitVec 32 := Scalar.addi v29 c3_i32_138
  let c4_i32_139 : BitVec 32 := 4#32
  let v183 : BitVec 32 := Scalar.remsi v182 c4_i32_139
  let v184 : BitVec 32 := Scalar.addi v181 v183
  let v185 : BitVec 1 := Scalar.cmpi .ne v184 v2
  let v186 : BitVec 32 := Scalar.extui v185
  let c0_i32_140 : BitVec 32 := 0#32
  let v187 : BitVec 1 := Scalar.cmpi .ne v186 c0_i32_140
  v187

def k0_off17 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_137 : BitVec 32 := 4#32
  let v181 : BitVec 32 := Scalar.muli v136 c4_i32_137
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_138 : BitVec 32 := 3#32
  let v182 : BitVec 32 := Scalar.addi v29 c3_i32_138
  let c4_i32_139 : BitVec 32 := 4#32
  let v183 : BitVec 32 := Scalar.remsi v182 c4_i32_139
  let v184 : BitVec 32 := Scalar.addi v181 v183
  ![0, v184.toNat]
def k0_off18 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_137 : BitVec 32 := 4#32
  let v181 : BitVec 32 := Scalar.muli v136 c4_i32_137
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_138 : BitVec 32 := 3#32
  let v182 : BitVec 32 := Scalar.addi v29 c3_i32_138
  let c4_i32_139 : BitVec 32 := 4#32
  let v183 : BitVec 32 := Scalar.remsi v182 c4_i32_139
  let v184 : BitVec 32 := Scalar.addi v181 v183
  let c512_i32_248 : BitVec 32 := 512#32
  let v341 : BitVec 32 := Scalar.muli v184 c512_i32_248
  let c0_i32_249 : BitVec 32 := 0#32
  let v342 : BitVec 32 := Scalar.addi v341 c0_i32_249
  let c0_i32_256 : BitVec 32 := 0#32
  ![v342.toNat, 0]
def k0_dev19 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_102 : BitVec 32 := 1#32
  let v134 : BitVec 32 := Scalar.addi v19 c1_i32_102
  let c0_i32_103 : BitVec 32 := 0#32
  let v135 : BitVec 32 := Scalar.addi v134 c0_i32_103
  let c4_i32_104 : BitVec 32 := 4#32
  let v136 : BitVec 32 := Scalar.remsi v135 c4_i32_104
  let c4_i32_137 : BitVec 32 := 4#32
  let v181 : BitVec 32 := Scalar.muli v136 c4_i32_137
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_138 : BitVec 32 := 3#32
  let v182 : BitVec 32 := Scalar.addi v29 c3_i32_138
  let c4_i32_139 : BitVec 32 := 4#32
  let v183 : BitVec 32 := Scalar.remsi v182 c4_i32_139
  let v184 : BitVec 32 := Scalar.addi v181 v183
  let c1_i32_252 : BitVec 32 := 1#32
  let v343 : BitVec 32 := Scalar.muli v184 c1_i32_252
  let v344 : BitVec 32 := Scalar.addi c0_i32_253 v343
  v344.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_163 : BitVec 32 := 4#32
  let v214 : BitVec 32 := Scalar.muli v190 c4_i32_163
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_164 : BitVec 32 := 0#32
  let v215 : BitVec 32 := Scalar.addi v29 c0_i32_164
  let c4_i32_165 : BitVec 32 := 4#32
  let v216 : BitVec 32 := Scalar.remsi v215 c4_i32_165
  let v217 : BitVec 32 := Scalar.addi v214 v216
  let v218 : BitVec 1 := Scalar.cmpi .ne v217 v2
  let v219 : BitVec 32 := Scalar.extui v218
  let c0_i32_166 : BitVec 32 := 0#32
  let v220 : BitVec 1 := Scalar.cmpi .ne v219 c0_i32_166
  v220

def k0_off21 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_163 : BitVec 32 := 4#32
  let v214 : BitVec 32 := Scalar.muli v190 c4_i32_163
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_164 : BitVec 32 := 0#32
  let v215 : BitVec 32 := Scalar.addi v29 c0_i32_164
  let c4_i32_165 : BitVec 32 := 4#32
  let v216 : BitVec 32 := Scalar.remsi v215 c4_i32_165
  let v217 : BitVec 32 := Scalar.addi v214 v216
  ![0, v217.toNat]
def k0_off22 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_163 : BitVec 32 := 4#32
  let v214 : BitVec 32 := Scalar.muli v190 c4_i32_163
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_164 : BitVec 32 := 0#32
  let v215 : BitVec 32 := Scalar.addi v29 c0_i32_164
  let c4_i32_165 : BitVec 32 := 4#32
  let v216 : BitVec 32 := Scalar.remsi v215 c4_i32_165
  let v217 : BitVec 32 := Scalar.addi v214 v216
  let c512_i32_248 : BitVec 32 := 512#32
  let v341 : BitVec 32 := Scalar.muli v217 c512_i32_248
  let c0_i32_249 : BitVec 32 := 0#32
  let v342 : BitVec 32 := Scalar.addi v341 c0_i32_249
  let c0_i32_256 : BitVec 32 := 0#32
  ![v342.toNat, 0]
def k0_dev20 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_163 : BitVec 32 := 4#32
  let v214 : BitVec 32 := Scalar.muli v190 c4_i32_163
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_164 : BitVec 32 := 0#32
  let v215 : BitVec 32 := Scalar.addi v29 c0_i32_164
  let c4_i32_165 : BitVec 32 := 4#32
  let v216 : BitVec 32 := Scalar.remsi v215 c4_i32_165
  let v217 : BitVec 32 := Scalar.addi v214 v216
  let c1_i32_252 : BitVec 32 := 1#32
  let v343 : BitVec 32 := Scalar.muli v217 c1_i32_252
  let v344 : BitVec 32 := Scalar.addi c0_i32_253 v343
  v344.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_167 : BitVec 32 := 4#32
  let v221 : BitVec 32 := Scalar.muli v190 c4_i32_167
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_168 : BitVec 32 := 1#32
  let v222 : BitVec 32 := Scalar.addi v29 c1_i32_168
  let c4_i32_169 : BitVec 32 := 4#32
  let v223 : BitVec 32 := Scalar.remsi v222 c4_i32_169
  let v224 : BitVec 32 := Scalar.addi v221 v223
  let v225 : BitVec 1 := Scalar.cmpi .ne v224 v2
  let v226 : BitVec 32 := Scalar.extui v225
  let c0_i32_170 : BitVec 32 := 0#32
  let v227 : BitVec 1 := Scalar.cmpi .ne v226 c0_i32_170
  v227

def k0_off25 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_167 : BitVec 32 := 4#32
  let v221 : BitVec 32 := Scalar.muli v190 c4_i32_167
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_168 : BitVec 32 := 1#32
  let v222 : BitVec 32 := Scalar.addi v29 c1_i32_168
  let c4_i32_169 : BitVec 32 := 4#32
  let v223 : BitVec 32 := Scalar.remsi v222 c4_i32_169
  let v224 : BitVec 32 := Scalar.addi v221 v223
  ![0, v224.toNat]
def k0_off26 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_167 : BitVec 32 := 4#32
  let v221 : BitVec 32 := Scalar.muli v190 c4_i32_167
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_168 : BitVec 32 := 1#32
  let v222 : BitVec 32 := Scalar.addi v29 c1_i32_168
  let c4_i32_169 : BitVec 32 := 4#32
  let v223 : BitVec 32 := Scalar.remsi v222 c4_i32_169
  let v224 : BitVec 32 := Scalar.addi v221 v223
  let c512_i32_248 : BitVec 32 := 512#32
  let v341 : BitVec 32 := Scalar.muli v224 c512_i32_248
  let c0_i32_249 : BitVec 32 := 0#32
  let v342 : BitVec 32 := Scalar.addi v341 c0_i32_249
  let c0_i32_256 : BitVec 32 := 0#32
  ![v342.toNat, 0]
def k0_dev21 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_167 : BitVec 32 := 4#32
  let v221 : BitVec 32 := Scalar.muli v190 c4_i32_167
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_168 : BitVec 32 := 1#32
  let v222 : BitVec 32 := Scalar.addi v29 c1_i32_168
  let c4_i32_169 : BitVec 32 := 4#32
  let v223 : BitVec 32 := Scalar.remsi v222 c4_i32_169
  let v224 : BitVec 32 := Scalar.addi v221 v223
  let c1_i32_252 : BitVec 32 := 1#32
  let v343 : BitVec 32 := Scalar.muli v224 c1_i32_252
  let v344 : BitVec 32 := Scalar.addi c0_i32_253 v343
  v344.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_171 : BitVec 32 := 4#32
  let v228 : BitVec 32 := Scalar.muli v190 c4_i32_171
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_172 : BitVec 32 := 2#32
  let v229 : BitVec 32 := Scalar.addi v29 c2_i32_172
  let c4_i32_173 : BitVec 32 := 4#32
  let v230 : BitVec 32 := Scalar.remsi v229 c4_i32_173
  let v231 : BitVec 32 := Scalar.addi v228 v230
  let v232 : BitVec 1 := Scalar.cmpi .ne v231 v2
  let v233 : BitVec 32 := Scalar.extui v232
  let c0_i32_174 : BitVec 32 := 0#32
  let v234 : BitVec 1 := Scalar.cmpi .ne v233 c0_i32_174
  v234

def k0_off29 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_171 : BitVec 32 := 4#32
  let v228 : BitVec 32 := Scalar.muli v190 c4_i32_171
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_172 : BitVec 32 := 2#32
  let v229 : BitVec 32 := Scalar.addi v29 c2_i32_172
  let c4_i32_173 : BitVec 32 := 4#32
  let v230 : BitVec 32 := Scalar.remsi v229 c4_i32_173
  let v231 : BitVec 32 := Scalar.addi v228 v230
  ![0, v231.toNat]
def k0_off30 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_171 : BitVec 32 := 4#32
  let v228 : BitVec 32 := Scalar.muli v190 c4_i32_171
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_172 : BitVec 32 := 2#32
  let v229 : BitVec 32 := Scalar.addi v29 c2_i32_172
  let c4_i32_173 : BitVec 32 := 4#32
  let v230 : BitVec 32 := Scalar.remsi v229 c4_i32_173
  let v231 : BitVec 32 := Scalar.addi v228 v230
  let c512_i32_248 : BitVec 32 := 512#32
  let v341 : BitVec 32 := Scalar.muli v231 c512_i32_248
  let c0_i32_249 : BitVec 32 := 0#32
  let v342 : BitVec 32 := Scalar.addi v341 c0_i32_249
  let c0_i32_256 : BitVec 32 := 0#32
  ![v342.toNat, 0]
def k0_dev22 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_171 : BitVec 32 := 4#32
  let v228 : BitVec 32 := Scalar.muli v190 c4_i32_171
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_172 : BitVec 32 := 2#32
  let v229 : BitVec 32 := Scalar.addi v29 c2_i32_172
  let c4_i32_173 : BitVec 32 := 4#32
  let v230 : BitVec 32 := Scalar.remsi v229 c4_i32_173
  let v231 : BitVec 32 := Scalar.addi v228 v230
  let c1_i32_252 : BitVec 32 := 1#32
  let v343 : BitVec 32 := Scalar.muli v231 c1_i32_252
  let v344 : BitVec 32 := Scalar.addi c0_i32_253 v343
  v344.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_175 : BitVec 32 := 4#32
  let v235 : BitVec 32 := Scalar.muli v190 c4_i32_175
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_176 : BitVec 32 := 3#32
  let v236 : BitVec 32 := Scalar.addi v29 c3_i32_176
  let c4_i32_177 : BitVec 32 := 4#32
  let v237 : BitVec 32 := Scalar.remsi v236 c4_i32_177
  let v238 : BitVec 32 := Scalar.addi v235 v237
  let v239 : BitVec 1 := Scalar.cmpi .ne v238 v2
  let v240 : BitVec 32 := Scalar.extui v239
  let c0_i32_178 : BitVec 32 := 0#32
  let v241 : BitVec 1 := Scalar.cmpi .ne v240 c0_i32_178
  v241

def k0_off33 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_175 : BitVec 32 := 4#32
  let v235 : BitVec 32 := Scalar.muli v190 c4_i32_175
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_176 : BitVec 32 := 3#32
  let v236 : BitVec 32 := Scalar.addi v29 c3_i32_176
  let c4_i32_177 : BitVec 32 := 4#32
  let v237 : BitVec 32 := Scalar.remsi v236 c4_i32_177
  let v238 : BitVec 32 := Scalar.addi v235 v237
  ![0, v238.toNat]
def k0_off34 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_175 : BitVec 32 := 4#32
  let v235 : BitVec 32 := Scalar.muli v190 c4_i32_175
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_176 : BitVec 32 := 3#32
  let v236 : BitVec 32 := Scalar.addi v29 c3_i32_176
  let c4_i32_177 : BitVec 32 := 4#32
  let v237 : BitVec 32 := Scalar.remsi v236 c4_i32_177
  let v238 : BitVec 32 := Scalar.addi v235 v237
  let c512_i32_248 : BitVec 32 := 512#32
  let v341 : BitVec 32 := Scalar.muli v238 c512_i32_248
  let c0_i32_249 : BitVec 32 := 0#32
  let v342 : BitVec 32 := Scalar.addi v341 c0_i32_249
  let c0_i32_256 : BitVec 32 := 0#32
  ![v342.toNat, 0]
def k0_dev23 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_141 : BitVec 32 := 1#32
  let v188 : BitVec 32 := Scalar.addi v19 c1_i32_141
  let c1_i32_142 : BitVec 32 := 1#32
  let v189 : BitVec 32 := Scalar.addi v188 c1_i32_142
  let c4_i32_143 : BitVec 32 := 4#32
  let v190 : BitVec 32 := Scalar.remsi v189 c4_i32_143
  let c4_i32_175 : BitVec 32 := 4#32
  let v235 : BitVec 32 := Scalar.muli v190 c4_i32_175
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_176 : BitVec 32 := 3#32
  let v236 : BitVec 32 := Scalar.addi v29 c3_i32_176
  let c4_i32_177 : BitVec 32 := 4#32
  let v237 : BitVec 32 := Scalar.remsi v236 c4_i32_177
  let v238 : BitVec 32 := Scalar.addi v235 v237
  let c1_i32_252 : BitVec 32 := 1#32
  let v343 : BitVec 32 := Scalar.muli v238 c1_i32_252
  let v344 : BitVec 32 := Scalar.addi c0_i32_253 v343
  v344.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_202 : BitVec 32 := 4#32
  let v268 : BitVec 32 := Scalar.muli v244 c4_i32_202
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_203 : BitVec 32 := 0#32
  let v269 : BitVec 32 := Scalar.addi v29 c0_i32_203
  let c4_i32_204 : BitVec 32 := 4#32
  let v270 : BitVec 32 := Scalar.remsi v269 c4_i32_204
  let v271 : BitVec 32 := Scalar.addi v268 v270
  let v272 : BitVec 1 := Scalar.cmpi .ne v271 v2
  let v273 : BitVec 32 := Scalar.extui v272
  let c0_i32_205 : BitVec 32 := 0#32
  let v274 : BitVec 1 := Scalar.cmpi .ne v273 c0_i32_205
  v274

def k0_off37 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_202 : BitVec 32 := 4#32
  let v268 : BitVec 32 := Scalar.muli v244 c4_i32_202
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_203 : BitVec 32 := 0#32
  let v269 : BitVec 32 := Scalar.addi v29 c0_i32_203
  let c4_i32_204 : BitVec 32 := 4#32
  let v270 : BitVec 32 := Scalar.remsi v269 c4_i32_204
  let v271 : BitVec 32 := Scalar.addi v268 v270
  ![0, v271.toNat]
def k0_off38 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_202 : BitVec 32 := 4#32
  let v268 : BitVec 32 := Scalar.muli v244 c4_i32_202
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_203 : BitVec 32 := 0#32
  let v269 : BitVec 32 := Scalar.addi v29 c0_i32_203
  let c4_i32_204 : BitVec 32 := 4#32
  let v270 : BitVec 32 := Scalar.remsi v269 c4_i32_204
  let v271 : BitVec 32 := Scalar.addi v268 v270
  let c512_i32_248 : BitVec 32 := 512#32
  let v341 : BitVec 32 := Scalar.muli v271 c512_i32_248
  let c0_i32_249 : BitVec 32 := 0#32
  let v342 : BitVec 32 := Scalar.addi v341 c0_i32_249
  let c0_i32_256 : BitVec 32 := 0#32
  ![v342.toNat, 0]
def k0_dev24 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_202 : BitVec 32 := 4#32
  let v268 : BitVec 32 := Scalar.muli v244 c4_i32_202
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_203 : BitVec 32 := 0#32
  let v269 : BitVec 32 := Scalar.addi v29 c0_i32_203
  let c4_i32_204 : BitVec 32 := 4#32
  let v270 : BitVec 32 := Scalar.remsi v269 c4_i32_204
  let v271 : BitVec 32 := Scalar.addi v268 v270
  let c1_i32_252 : BitVec 32 := 1#32
  let v343 : BitVec 32 := Scalar.muli v271 c1_i32_252
  let v344 : BitVec 32 := Scalar.addi c0_i32_253 v343
  v344.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_206 : BitVec 32 := 4#32
  let v275 : BitVec 32 := Scalar.muli v244 c4_i32_206
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_207 : BitVec 32 := 1#32
  let v276 : BitVec 32 := Scalar.addi v29 c1_i32_207
  let c4_i32_208 : BitVec 32 := 4#32
  let v277 : BitVec 32 := Scalar.remsi v276 c4_i32_208
  let v278 : BitVec 32 := Scalar.addi v275 v277
  let v279 : BitVec 1 := Scalar.cmpi .ne v278 v2
  let v280 : BitVec 32 := Scalar.extui v279
  let c0_i32_209 : BitVec 32 := 0#32
  let v281 : BitVec 1 := Scalar.cmpi .ne v280 c0_i32_209
  v281

def k0_off41 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_206 : BitVec 32 := 4#32
  let v275 : BitVec 32 := Scalar.muli v244 c4_i32_206
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_207 : BitVec 32 := 1#32
  let v276 : BitVec 32 := Scalar.addi v29 c1_i32_207
  let c4_i32_208 : BitVec 32 := 4#32
  let v277 : BitVec 32 := Scalar.remsi v276 c4_i32_208
  let v278 : BitVec 32 := Scalar.addi v275 v277
  ![0, v278.toNat]
def k0_off42 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_206 : BitVec 32 := 4#32
  let v275 : BitVec 32 := Scalar.muli v244 c4_i32_206
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_207 : BitVec 32 := 1#32
  let v276 : BitVec 32 := Scalar.addi v29 c1_i32_207
  let c4_i32_208 : BitVec 32 := 4#32
  let v277 : BitVec 32 := Scalar.remsi v276 c4_i32_208
  let v278 : BitVec 32 := Scalar.addi v275 v277
  let c512_i32_248 : BitVec 32 := 512#32
  let v341 : BitVec 32 := Scalar.muli v278 c512_i32_248
  let c0_i32_249 : BitVec 32 := 0#32
  let v342 : BitVec 32 := Scalar.addi v341 c0_i32_249
  let c0_i32_256 : BitVec 32 := 0#32
  ![v342.toNat, 0]
def k0_dev25 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_206 : BitVec 32 := 4#32
  let v275 : BitVec 32 := Scalar.muli v244 c4_i32_206
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_207 : BitVec 32 := 1#32
  let v276 : BitVec 32 := Scalar.addi v29 c1_i32_207
  let c4_i32_208 : BitVec 32 := 4#32
  let v277 : BitVec 32 := Scalar.remsi v276 c4_i32_208
  let v278 : BitVec 32 := Scalar.addi v275 v277
  let c1_i32_252 : BitVec 32 := 1#32
  let v343 : BitVec 32 := Scalar.muli v278 c1_i32_252
  let v344 : BitVec 32 := Scalar.addi c0_i32_253 v343
  v344.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_210 : BitVec 32 := 4#32
  let v282 : BitVec 32 := Scalar.muli v244 c4_i32_210
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_211 : BitVec 32 := 2#32
  let v283 : BitVec 32 := Scalar.addi v29 c2_i32_211
  let c4_i32_212 : BitVec 32 := 4#32
  let v284 : BitVec 32 := Scalar.remsi v283 c4_i32_212
  let v285 : BitVec 32 := Scalar.addi v282 v284
  let v286 : BitVec 1 := Scalar.cmpi .ne v285 v2
  let v287 : BitVec 32 := Scalar.extui v286
  let c0_i32_213 : BitVec 32 := 0#32
  let v288 : BitVec 1 := Scalar.cmpi .ne v287 c0_i32_213
  v288

def k0_off45 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_210 : BitVec 32 := 4#32
  let v282 : BitVec 32 := Scalar.muli v244 c4_i32_210
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_211 : BitVec 32 := 2#32
  let v283 : BitVec 32 := Scalar.addi v29 c2_i32_211
  let c4_i32_212 : BitVec 32 := 4#32
  let v284 : BitVec 32 := Scalar.remsi v283 c4_i32_212
  let v285 : BitVec 32 := Scalar.addi v282 v284
  ![0, v285.toNat]
def k0_off46 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_210 : BitVec 32 := 4#32
  let v282 : BitVec 32 := Scalar.muli v244 c4_i32_210
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_211 : BitVec 32 := 2#32
  let v283 : BitVec 32 := Scalar.addi v29 c2_i32_211
  let c4_i32_212 : BitVec 32 := 4#32
  let v284 : BitVec 32 := Scalar.remsi v283 c4_i32_212
  let v285 : BitVec 32 := Scalar.addi v282 v284
  let c512_i32_248 : BitVec 32 := 512#32
  let v341 : BitVec 32 := Scalar.muli v285 c512_i32_248
  let c0_i32_249 : BitVec 32 := 0#32
  let v342 : BitVec 32 := Scalar.addi v341 c0_i32_249
  let c0_i32_256 : BitVec 32 := 0#32
  ![v342.toNat, 0]
def k0_dev26 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_210 : BitVec 32 := 4#32
  let v282 : BitVec 32 := Scalar.muli v244 c4_i32_210
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_211 : BitVec 32 := 2#32
  let v283 : BitVec 32 := Scalar.addi v29 c2_i32_211
  let c4_i32_212 : BitVec 32 := 4#32
  let v284 : BitVec 32 := Scalar.remsi v283 c4_i32_212
  let v285 : BitVec 32 := Scalar.addi v282 v284
  let c1_i32_252 : BitVec 32 := 1#32
  let v343 : BitVec 32 := Scalar.muli v285 c1_i32_252
  let v344 : BitVec 32 := Scalar.addi c0_i32_253 v343
  v344.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_214 : BitVec 32 := 4#32
  let v289 : BitVec 32 := Scalar.muli v244 c4_i32_214
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_215 : BitVec 32 := 3#32
  let v290 : BitVec 32 := Scalar.addi v29 c3_i32_215
  let c4_i32_216 : BitVec 32 := 4#32
  let v291 : BitVec 32 := Scalar.remsi v290 c4_i32_216
  let v292 : BitVec 32 := Scalar.addi v289 v291
  let v293 : BitVec 1 := Scalar.cmpi .ne v292 v2
  let v294 : BitVec 32 := Scalar.extui v293
  let c0_i32_217 : BitVec 32 := 0#32
  let v295 : BitVec 1 := Scalar.cmpi .ne v294 c0_i32_217
  v295

def k0_off49 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_214 : BitVec 32 := 4#32
  let v289 : BitVec 32 := Scalar.muli v244 c4_i32_214
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_215 : BitVec 32 := 3#32
  let v290 : BitVec 32 := Scalar.addi v29 c3_i32_215
  let c4_i32_216 : BitVec 32 := 4#32
  let v291 : BitVec 32 := Scalar.remsi v290 c4_i32_216
  let v292 : BitVec 32 := Scalar.addi v289 v291
  ![0, v292.toNat]
def k0_off50 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_214 : BitVec 32 := 4#32
  let v289 : BitVec 32 := Scalar.muli v244 c4_i32_214
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_215 : BitVec 32 := 3#32
  let v290 : BitVec 32 := Scalar.addi v29 c3_i32_215
  let c4_i32_216 : BitVec 32 := 4#32
  let v291 : BitVec 32 := Scalar.remsi v290 c4_i32_216
  let v292 : BitVec 32 := Scalar.addi v289 v291
  let c512_i32_248 : BitVec 32 := 512#32
  let v341 : BitVec 32 := Scalar.muli v292 c512_i32_248
  let c0_i32_249 : BitVec 32 := 0#32
  let v342 : BitVec 32 := Scalar.addi v341 c0_i32_249
  let c0_i32_256 : BitVec 32 := 0#32
  ![v342.toNat, 0]
def k0_dev27 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_179 : BitVec 32 := 1#32
  let v242 : BitVec 32 := Scalar.addi v19 c1_i32_179
  let c2_i32_180 : BitVec 32 := 2#32
  let v243 : BitVec 32 := Scalar.addi v242 c2_i32_180
  let c4_i32_181 : BitVec 32 := 4#32
  let v244 : BitVec 32 := Scalar.remsi v243 c4_i32_181
  let c4_i32_214 : BitVec 32 := 4#32
  let v289 : BitVec 32 := Scalar.muli v244 c4_i32_214
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_215 : BitVec 32 := 3#32
  let v290 : BitVec 32 := Scalar.addi v29 c3_i32_215
  let c4_i32_216 : BitVec 32 := 4#32
  let v291 : BitVec 32 := Scalar.remsi v290 c4_i32_216
  let v292 : BitVec 32 := Scalar.addi v289 v291
  let c1_i32_252 : BitVec 32 := 1#32
  let v343 : BitVec 32 := Scalar.muli v292 c1_i32_252
  let v344 : BitVec 32 := Scalar.addi c0_i32_253 v343
  v344.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_232 : BitVec 32 := 4#32
  let v313 : BitVec 32 := Scalar.muli v298 c4_i32_232
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_233 : BitVec 32 := 0#32
  let v314 : BitVec 32 := Scalar.addi v29 c0_i32_233
  let c4_i32_234 : BitVec 32 := 4#32
  let v315 : BitVec 32 := Scalar.remsi v314 c4_i32_234
  let v316 : BitVec 32 := Scalar.addi v313 v315
  let v317 : BitVec 1 := Scalar.cmpi .ne v316 v2
  let v318 : BitVec 32 := Scalar.extui v317
  let c0_i32_235 : BitVec 32 := 0#32
  let v319 : BitVec 1 := Scalar.cmpi .ne v318 c0_i32_235
  v319

def k0_off53 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_232 : BitVec 32 := 4#32
  let v313 : BitVec 32 := Scalar.muli v298 c4_i32_232
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_233 : BitVec 32 := 0#32
  let v314 : BitVec 32 := Scalar.addi v29 c0_i32_233
  let c4_i32_234 : BitVec 32 := 4#32
  let v315 : BitVec 32 := Scalar.remsi v314 c4_i32_234
  let v316 : BitVec 32 := Scalar.addi v313 v315
  ![0, v316.toNat]
def k0_off54 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_232 : BitVec 32 := 4#32
  let v313 : BitVec 32 := Scalar.muli v298 c4_i32_232
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_233 : BitVec 32 := 0#32
  let v314 : BitVec 32 := Scalar.addi v29 c0_i32_233
  let c4_i32_234 : BitVec 32 := 4#32
  let v315 : BitVec 32 := Scalar.remsi v314 c4_i32_234
  let v316 : BitVec 32 := Scalar.addi v313 v315
  let c512_i32_248 : BitVec 32 := 512#32
  let v341 : BitVec 32 := Scalar.muli v316 c512_i32_248
  let c0_i32_249 : BitVec 32 := 0#32
  let v342 : BitVec 32 := Scalar.addi v341 c0_i32_249
  let c0_i32_256 : BitVec 32 := 0#32
  ![v342.toNat, 0]
def k0_dev28 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_232 : BitVec 32 := 4#32
  let v313 : BitVec 32 := Scalar.muli v298 c4_i32_232
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_233 : BitVec 32 := 0#32
  let v314 : BitVec 32 := Scalar.addi v29 c0_i32_233
  let c4_i32_234 : BitVec 32 := 4#32
  let v315 : BitVec 32 := Scalar.remsi v314 c4_i32_234
  let v316 : BitVec 32 := Scalar.addi v313 v315
  let c1_i32_252 : BitVec 32 := 1#32
  let v343 : BitVec 32 := Scalar.muli v316 c1_i32_252
  let v344 : BitVec 32 := Scalar.addi c0_i32_253 v343
  v344.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_236 : BitVec 32 := 4#32
  let v320 : BitVec 32 := Scalar.muli v298 c4_i32_236
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_237 : BitVec 32 := 1#32
  let v321 : BitVec 32 := Scalar.addi v29 c1_i32_237
  let c4_i32_238 : BitVec 32 := 4#32
  let v322 : BitVec 32 := Scalar.remsi v321 c4_i32_238
  let v323 : BitVec 32 := Scalar.addi v320 v322
  let v324 : BitVec 1 := Scalar.cmpi .ne v323 v2
  let v325 : BitVec 32 := Scalar.extui v324
  let c0_i32_239 : BitVec 32 := 0#32
  let v326 : BitVec 1 := Scalar.cmpi .ne v325 c0_i32_239
  v326

def k0_off57 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_236 : BitVec 32 := 4#32
  let v320 : BitVec 32 := Scalar.muli v298 c4_i32_236
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_237 : BitVec 32 := 1#32
  let v321 : BitVec 32 := Scalar.addi v29 c1_i32_237
  let c4_i32_238 : BitVec 32 := 4#32
  let v322 : BitVec 32 := Scalar.remsi v321 c4_i32_238
  let v323 : BitVec 32 := Scalar.addi v320 v322
  ![0, v323.toNat]
def k0_off58 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_236 : BitVec 32 := 4#32
  let v320 : BitVec 32 := Scalar.muli v298 c4_i32_236
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_237 : BitVec 32 := 1#32
  let v321 : BitVec 32 := Scalar.addi v29 c1_i32_237
  let c4_i32_238 : BitVec 32 := 4#32
  let v322 : BitVec 32 := Scalar.remsi v321 c4_i32_238
  let v323 : BitVec 32 := Scalar.addi v320 v322
  let c512_i32_248 : BitVec 32 := 512#32
  let v341 : BitVec 32 := Scalar.muli v323 c512_i32_248
  let c0_i32_249 : BitVec 32 := 0#32
  let v342 : BitVec 32 := Scalar.addi v341 c0_i32_249
  let c0_i32_256 : BitVec 32 := 0#32
  ![v342.toNat, 0]
def k0_dev29 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_236 : BitVec 32 := 4#32
  let v320 : BitVec 32 := Scalar.muli v298 c4_i32_236
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_237 : BitVec 32 := 1#32
  let v321 : BitVec 32 := Scalar.addi v29 c1_i32_237
  let c4_i32_238 : BitVec 32 := 4#32
  let v322 : BitVec 32 := Scalar.remsi v321 c4_i32_238
  let v323 : BitVec 32 := Scalar.addi v320 v322
  let c1_i32_252 : BitVec 32 := 1#32
  let v343 : BitVec 32 := Scalar.muli v323 c1_i32_252
  let v344 : BitVec 32 := Scalar.addi c0_i32_253 v343
  v344.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_240 : BitVec 32 := 4#32
  let v327 : BitVec 32 := Scalar.muli v298 c4_i32_240
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_241 : BitVec 32 := 2#32
  let v328 : BitVec 32 := Scalar.addi v29 c2_i32_241
  let c4_i32_242 : BitVec 32 := 4#32
  let v329 : BitVec 32 := Scalar.remsi v328 c4_i32_242
  let v330 : BitVec 32 := Scalar.addi v327 v329
  let v331 : BitVec 1 := Scalar.cmpi .ne v330 v2
  let v332 : BitVec 32 := Scalar.extui v331
  let c0_i32_243 : BitVec 32 := 0#32
  let v333 : BitVec 1 := Scalar.cmpi .ne v332 c0_i32_243
  v333

def k0_off61 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_240 : BitVec 32 := 4#32
  let v327 : BitVec 32 := Scalar.muli v298 c4_i32_240
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_241 : BitVec 32 := 2#32
  let v328 : BitVec 32 := Scalar.addi v29 c2_i32_241
  let c4_i32_242 : BitVec 32 := 4#32
  let v329 : BitVec 32 := Scalar.remsi v328 c4_i32_242
  let v330 : BitVec 32 := Scalar.addi v327 v329
  ![0, v330.toNat]
def k0_off62 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_240 : BitVec 32 := 4#32
  let v327 : BitVec 32 := Scalar.muli v298 c4_i32_240
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_241 : BitVec 32 := 2#32
  let v328 : BitVec 32 := Scalar.addi v29 c2_i32_241
  let c4_i32_242 : BitVec 32 := 4#32
  let v329 : BitVec 32 := Scalar.remsi v328 c4_i32_242
  let v330 : BitVec 32 := Scalar.addi v327 v329
  let c512_i32_248 : BitVec 32 := 512#32
  let v341 : BitVec 32 := Scalar.muli v330 c512_i32_248
  let c0_i32_249 : BitVec 32 := 0#32
  let v342 : BitVec 32 := Scalar.addi v341 c0_i32_249
  let c0_i32_256 : BitVec 32 := 0#32
  ![v342.toNat, 0]
def k0_dev30 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_240 : BitVec 32 := 4#32
  let v327 : BitVec 32 := Scalar.muli v298 c4_i32_240
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_241 : BitVec 32 := 2#32
  let v328 : BitVec 32 := Scalar.addi v29 c2_i32_241
  let c4_i32_242 : BitVec 32 := 4#32
  let v329 : BitVec 32 := Scalar.remsi v328 c4_i32_242
  let v330 : BitVec 32 := Scalar.addi v327 v329
  let c1_i32_252 : BitVec 32 := 1#32
  let v343 : BitVec 32 := Scalar.muli v330 c1_i32_252
  let v344 : BitVec 32 := Scalar.addi c0_i32_253 v343
  v344.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_244 : BitVec 32 := 4#32
  let v334 : BitVec 32 := Scalar.muli v298 c4_i32_244
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_245 : BitVec 32 := 3#32
  let v335 : BitVec 32 := Scalar.addi v29 c3_i32_245
  let c4_i32_246 : BitVec 32 := 4#32
  let v336 : BitVec 32 := Scalar.remsi v335 c4_i32_246
  let v337 : BitVec 32 := Scalar.addi v334 v336
  let v338 : BitVec 1 := Scalar.cmpi .ne v337 v2
  let v339 : BitVec 32 := Scalar.extui v338
  let c0_i32_247 : BitVec 32 := 0#32
  let v340 : BitVec 1 := Scalar.cmpi .ne v339 c0_i32_247
  v340

def k0_off65 (d0 : Dev nD) : Fin 2 → Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_244 : BitVec 32 := 4#32
  let v334 : BitVec 32 := Scalar.muli v298 c4_i32_244
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_245 : BitVec 32 := 3#32
  let v335 : BitVec 32 := Scalar.addi v29 c3_i32_245
  let c4_i32_246 : BitVec 32 := 4#32
  let v336 : BitVec 32 := Scalar.remsi v335 c4_i32_246
  let v337 : BitVec 32 := Scalar.addi v334 v336
  ![0, v337.toNat]
def k0_off66 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_254 : BitVec 32 := 0#32
  let c0_i32_255 : BitVec 32 := 0#32
  ![v2.toNat, 0, 0]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_244 : BitVec 32 := 4#32
  let v334 : BitVec 32 := Scalar.muli v298 c4_i32_244
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_245 : BitVec 32 := 3#32
  let v335 : BitVec 32 := Scalar.addi v29 c3_i32_245
  let c4_i32_246 : BitVec 32 := 4#32
  let v336 : BitVec 32 := Scalar.remsi v335 c4_i32_246
  let v337 : BitVec 32 := Scalar.addi v334 v336
  let c512_i32_248 : BitVec 32 := 512#32
  let v341 : BitVec 32 := Scalar.muli v337 c512_i32_248
  let c0_i32_249 : BitVec 32 := 0#32
  let v342 : BitVec 32 := Scalar.addi v341 c0_i32_249
  let c0_i32_256 : BitVec 32 := 0#32
  ![v342.toNat, 0]
def k0_dev31 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_218 : BitVec 32 := 1#32
  let v296 : BitVec 32 := Scalar.addi v19 c1_i32_218
  let c3_i32_219 : BitVec 32 := 3#32
  let v297 : BitVec 32 := Scalar.addi v296 c3_i32_219
  let c4_i32_220 : BitVec 32 := 4#32
  let v298 : BitVec 32 := Scalar.remsi v297 c4_i32_220
  let c4_i32_244 : BitVec 32 := 4#32
  let v334 : BitVec 32 := Scalar.muli v298 c4_i32_244
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_245 : BitVec 32 := 3#32
  let v335 : BitVec 32 := Scalar.addi v29 c3_i32_245
  let c4_i32_246 : BitVec 32 := 4#32
  let v336 : BitVec 32 := Scalar.remsi v335 c4_i32_246
  let v337 : BitVec 32 := Scalar.addi v334 v336
  let c1_i32_252 : BitVec 32 := 1#32
  let v343 : BitVec 32 := Scalar.muli v337 c1_i32_252
  let v344 : BitVec 32 := Scalar.addi c0_i32_253 v343
  v344.toNat
def k0_off69 (v31 : BitVec 32) : Fin 2 → Nat :=
  let c0_i32_26 : BitVec 32 := 0#32
  ![0, v31.toNat]
def k0_cond18 (d0 : Dev nD) (v31 : BitVec 32) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v35 : BitVec 1 := Scalar.cmpi .ne v31 v2
  let v_true : BitVec 1 := 1#1
  let v36 : BitVec 1 := Scalar.andi v35 v_true
  let v37 : BitVec 32 := Scalar.extui v36
  let c0_i32_13 : BitVec 32 := 0#32
  let v38 : BitVec 1 := Scalar.cmpi .ne v37 c0_i32_13
  v38

def k0_off70 (v31 : BitVec 32) : Fin 3 → Nat :=
  let c0_i32_30 : BitVec 32 := 0#32
  let c0_i32_31 : BitVec 32 := 0#32
  ![v31.toNat, 0, 0]
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v39 : BitVec 32 := Scalar.muli v2 c512_i32
  let v40 : Index := Scalar.indexCast v39
  let c0 : Index := 0#32
  ![v40.toNat, 0]
def k0_off72 (v31 : BitVec 32) : Fin 3 → Nat :=
  let v43 : Index := Scalar.indexCast v31
  let c0_14 : Index := 0#32
  let c0_15 : Index := 0#32
  ![v43.toNat, 0, 0]

def k0_chk1 (d0 : Dev nD) (v31 : BitVec 32) : Prop :=
  (∀ (k0_h18 : k0_cond18 d0 v31 = 1#1), ∀ a, (k0_off69 v31) a + S1x1.size a ≤ S1x16.size a) ∧
  (∀ (k0_h18 : k0_cond18 d0 v31 = 1#1), ∀ a, (k0_off70 v31) a + S1x512x512.size a ≤ S16x512x512.size a) ∧
  (∀ (k0_h18 : k0_cond18 d0 v31 = 1#1), ∀ (hinb : ∀ a, (k0_off70 v31) a + S1x512x512.size a ≤ S16x512x512.size a), (Rect.unit (s := S16x512x512) (k0_off70 v31) S1x512x512.size hinb).WholeWords (EltTy.packing .bf16)) ∧
  (∀ a, (k0_off72 v31) a + S1x512x512.size a ≤ S16x512x512.size a)
theorem k0_off69_inb : ∀ (d0 : Dev nD) (v31 : BitVec 32) (k0_hw1 : k0_chk1 d0 v31), ∀ (k0_h18 : k0_cond18 d0 v31 = 1#1), ∀ a, (k0_off69 v31) a + S1x1.size a ≤ S1x16.size a := fun d0 v31 k0_hw1 k0_h18 => k0_hw1.1 k0_h18
theorem k0_off70_inb : ∀ (d0 : Dev nD) (v31 : BitVec 32) (k0_hw1 : k0_chk1 d0 v31), ∀ (k0_h18 : k0_cond18 d0 v31 = 1#1), ∀ a, (k0_off70 v31) a + S1x512x512.size a ≤ S16x512x512.size a := fun d0 v31 k0_hw1 k0_h18 => k0_hw1.2.1 k0_h18
theorem k0_off70_wordsbf16 : ∀ (d0 : Dev nD) (v31 : BitVec 32) (k0_hw1 : k0_chk1 d0 v31), ∀ (k0_h18 : k0_cond18 d0 v31 = 1#1), (Rect.unit (s := S16x512x512) (k0_off70 v31) S1x512x512.size (k0_off70_inb d0 v31 k0_hw1 k0_h18)).WholeWords (EltTy.packing .bf16) := fun d0 v31 k0_hw1 k0_h18 => k0_hw1.2.2.1 k0_h18 (k0_off70_inb d0 v31 k0_hw1 k0_h18)
theorem k0_off72_inb : ∀ (d0 : Dev nD) (v31 : BitVec 32) (k0_hw1 : k0_chk1 d0 v31), ∀ a, (k0_off72 v31) a + S1x512x512.size a ≤ S16x512x512.size a := fun d0 v31 k0_hw1 => k0_hw1.2.2.2

def k0_cond19 (i : grid0.Coords) : BitVec 1 :=
  let arg0 : BitVec 32 := BitVec.ofNat 32 (i 0).val
  let c15_i32 : BitVec 32 := 15#32
  let v55 : BitVec 1 := Scalar.cmpi .eq arg0 c15_i32
  let true_22 : BitVec 1 := 1#1
  let v56 : BitVec 1 := Scalar.andi v55 true_22
  let v57 : BitVec 32 := Scalar.extui v56
  let c0_i32_23 : BitVec 32 := 0#32
  let v58 : BitVec 1 := Scalar.cmpi .ne v57 c0_i32_23
  v58

def k0_off73 (d0 : Dev nD) (c1_i32_26 : BitVec 32) : Fin 2 → Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v62 : BitVec 32 := Scalar.addi v2 c1_i32_26
  let c16_i32_27 : BitVec 32 := 16#32
  let v63 : BitVec 32 := Scalar.remsi v62 c16_i32_27
  ![0, v63.toNat]
def k0_off74 (d0 : Dev nD) (c1_i32_26 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v62 : BitVec 32 := Scalar.addi v2 c1_i32_26
  let c16_i32_27 : BitVec 32 := 16#32
  let v63 : BitVec 32 := Scalar.remsi v62 c16_i32_27
  let c512_i32_28 : BitVec 32 := 512#32
  let v64 : BitVec 32 := Scalar.muli v63 c512_i32_28
  let c0_i32_29 : BitVec 32 := 0#32
  let v65 : BitVec 32 := Scalar.addi v64 c0_i32_29
  let c0_i32_33 : BitVec 32 := 0#32
  ![v65.toNat, 0]
def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let c0_i32_35 : BitVec 32 := 0#32
  ![v2.toNat, 0, 0]
def cc0_transform_1 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Sched.lean ====
/-
  The protocol of the kernel, written down before any run: the cells (one barrier cell, two cells of the streamed
  input, sixteen send cells and sixteen receive cells on each device), the contents that travel, the schedule of what
  is paid to which cell by whom, and the levels that order the waits.
-/
module

public import proofs.«01_k».proof.Proof.Gen.KernelIdeal.Launch
public import proofs.«01_k».proof.Proof.Gen.KernelIdeal.Skeleton
public import Idealize.ShloMosaic.Lib.Rounds
public import Idealize.ShloMosaic.Lib.Rounds.Family
public import Idealize.ShloMosaic.Lib.Pipeline.Regions

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline's own and the protocol's, whose duties are named by the device that pays -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Cells -/

abbrev xSem (s : Fin 2) : DmaSem sig := ⟨3 + s.val, by have := s.isLt; show _ < 37; omega⟩
abbrev sendSem (d : Dev nD) : DmaSem sig := ⟨5 + d.val, by have h : d.val < 16 := d.isLt; show _ < 37; omega⟩
abbrev recvSem (j : Dev nD) : DmaSem sig := ⟨21 + j.val, by have h : j.val < 16 := j.isLt; show _ < 37; omega⟩

abbrev barCell (c : Dev nD) : GSem nD τ sig := ((c : Thread nD τ), .reg barrier0)
abbrev xCell (c : Dev nD) (s : Fin 2) : GSem nD τ sig := ((c : Thread nD τ), .dma (xSem s))
abbrev sendCell (c d : Dev nD) : GSem nD τ sig := ((c : Thread nD τ), .dma (sendSem d))
abbrev recvCell (c j : Dev nD) : GSem nD τ sig := ((c : Thread nD τ), .dma (recvSem j))

/-- Which of the protocol's semaphores one is. -/
inductive Kind where
  | bar | x (s : Fin 2) | send (d : Dev nD) | recv (j : Dev nD) | none
  deriving DecidableEq

def kind : SemLoc sig → Kind
  | .reg _ => .bar
  | .dma d =>
    if h : d.val < 3 then .none
    else if h : d.val < 5 then .x ⟨d.val - 3, by omega⟩
    else if h : d.val < 21 then .send ⟨d.val - 5, by show _ < 16; omega⟩
    else .recv ⟨d.val - 21, by have : d.val < 37 := d.isLt; show _ < 16; omega⟩

theorem kind_bar : kind (.reg barrier0) = .bar := rfl
theorem kind_x (s : Fin 2) : kind (.dma (xSem s)) = .x s := by revert s; decide
theorem kind_send (d : Dev nD) : kind (.dma (sendSem d)) = .send d := by revert d; decide
theorem kind_recv (j : Dev nD) : kind (.dma (recvSem j)) = .recv j := by revert j; decide

/-! ## The places of the torus, and the order of the chunks -/

/-- The chunk of the input that device `c` streams at turn `cs`: the planes in order from the next one. -/
def turn (c : Dev nD) (cs : Fin 4) : Fin 4 := ⟨(c.val / 4 + 1 + cs.val) % 4, Nat.mod_lt _ (by decide)⟩

/-- The device that block `r` of turn `cs` goes to. -/
def peer (c : Dev nD) (cs r : Fin 4) : Dev nD :=
  ⟨(c.val / 4 + 1 + cs.val) % 4 * 4 + (c.val % 4 + r.val) % 4, by show _ < 16; omega⟩

/-! ## Pieces of the buffers -/

abbrev xM : Memref sig .tc .hbm S8192x512 .f32 := Memref.whole main_arg0
abbrev xfM : Memref sig .tc .vmem S2x2048x512 .f32 := Memref.whole cc0_scratch0
abbrev xbM : Memref sig .tc .vmem S8192x512 .bf16 := Memref.whole cc0_scratch1
abbrev cmM : Memref sig .tc .vmem S16x512x512 .bf16 := Memref.whole cc0_scratch2

theorem inb_chunk (q : Fin 4) : ∀ a, (![q.val * 2048, 0] : Fin 2 → Nat) a + S2048x512.size a ≤ S8192x512.size a := by
  revert q; decide
theorem inb_blk (d : Dev nD) : ∀ a, (![d.val * 512, 0] : Fin 2 → Nat) a + S512x512.size a ≤ S8192x512.size a := by
  revert d; decide
theorem inb_slot (s : Fin 2) : ∀ a, (![s.val, 0, 0] : Fin 3 → Nat) a + S1x2048x512.size a ≤ S2x2048x512.size a := by
  revert s; decide
theorem inb_sl (j : Dev nD) : ∀ a, (![j.val, 0, 0] : Fin 3 → Nat) a + S1x512x512.size a ≤ S16x512x512.size a := by
  revert j; decide

/-- Rows `2048 q` to `2048 (q + 1)` of an array of 8192 rows. -/
abbrev chunkR (q : Fin 4) : Rect S8192x512 := Rect.unit (s := S8192x512) ![q.val * 2048, 0] S2048x512.size (inb_chunk q)
/-- Rows `512 d` to `512 (d + 1)`. -/
abbrev blkR (d : Dev nD) : Rect S8192x512 := Rect.unit (s := S8192x512) ![d.val * 512, 0] S512x512.size (inb_blk d)
abbrev slotR (s : Fin 2) : Rect S2x2048x512 := Rect.unit (s := S2x2048x512) ![s.val, 0, 0] S1x2048x512.size (inb_slot s)
abbrev slR (j : Dev nD) : Rect S16x512x512 := Rect.unit (s := S16x512x512) ![j.val, 0, 0] S1x512x512.size (inb_sl j)

abbrev xRow (q : Fin 4) : Memref sig .tc .hbm S2048x512 .f32 := xM.slice (chunkR q) (fun _ => rfl)
abbrev xfSlot (s : Fin 2) : Memref sig .tc .vmem S2048x512 .f32 :=
  (xfM.slice (slotR s) (fun _ => rfl)).squeeze S2048x512 squeezes_S1x2048x512_S2048x512
abbrev xbBlk (d : Dev nD) : Memref sig .tc .vmem S512x512 .bf16 := xbM.slice (blkR d) (fun _ => rfl)
abbrev cmSl (j : Dev nD) : Memref sig .tc .vmem S512x512 .bf16 :=
  (cmM.slice (slR j) (fun _ => rfl)).squeeze S512x512 squeezes_S1x512x512_S512x512

/-- Elements of one of device `c`'s buffers, held whole. -/
abbrev xP (c : Dev nD) (q : Fin 4) (f : main_arg0.ty.Contents (Elt F)) : sProp 𝕄 :=
  (xRow q).view.loc (c : Thread nD τ) ↦[(xRow q).view.set]{fullShare} f
abbrev xfP (c : Dev nD) (s : Fin 2) (f : cc0_scratch0.ty.Contents (Elt F)) : sProp 𝕄 :=
  (xfSlot s).view.loc (c : Thread nD τ) ↦[(xfSlot s).view.set]{fullShare} f
abbrev xbP (c d : Dev nD) (f : cc0_scratch1.ty.Contents (Elt F)) : sProp 𝕄 :=
  (xbBlk d).view.loc (c : Thread nD τ) ↦[(xbBlk d).view.set]{fullShare} f
abbrev xbQ (c : Dev nD) (q : Fin 4) (f : cc0_scratch1.ty.Contents (Elt F)) : sProp 𝕄 :=
  xbM.view.loc (c : Thread nD τ) ↦[(xbM.access (chunkR q)).set]{fullShare} f
abbrev cmP (c j : Dev nD) (f : cc0_scratch2.ty.Contents (Elt F)) : sProp 𝕄 :=
  (cmSl j).view.loc (c : Thread nD τ) ↦[(cmSl j).view.set]{fullShare} f

/-! ## What the pieces hold -/

/-- Device `c`'s block of the input, rounded. -/
def XB (xs : Dev nD → main_arg0.ty.Contents (Elt F)) (c : Dev nD) : cc0_scratch1.ty.Contents (Elt F) :=
  truncf (s := S8192x512) .bf16 (xs c : FVec F S8192x512 .f32) bitsLt_bf16_f32

/-- The 512 by 512 block that goes from device `j` to device `c`. -/
def blk (xs : Dev nD → main_arg0.ty.Contents (Elt F)) (j c : Dev nD) : Vec F S512x512 .bf16 :=
  (xbBlk c).view.read (Elt F) (XB xs j)

/-- Slice `j` of device `c`'s landing buffer holding what device `j` sent. -/
def cmGot (xs : Dev nD → main_arg0.ty.Contents (Elt F)) (c j : Dev nD) : sProp 𝕄 :=
  iprop(∃ f : cc0_scratch2.ty.Contents (Elt F), ⌜(cmSl j).view.read (Elt F) f = blk xs j c⌝ ∗ cmP c j f)
/-- Slot `s` of the streaming buffer holding chunk `q` of the input. -/
def xfGot (xs : Dev nD → main_arg0.ty.Contents (Elt F)) (c : Dev nD) (s : Fin 2) (q : Fin 4) : sProp 𝕄 :=
  iprop(∃ f : cc0_scratch0.ty.Contents (Elt F), ⌜(xfSlot s).view.read (Elt F) f = (xRow q).view.read (Elt F) (xs c)⌝ ∗ xfP c s f)

/-! ## The schedule -/

/-- What one transfer of a block credits, and one of a chunk. -/
def NB : ℕ := RefSig.tileCredit S512x512 .bf16
def NX : ℕ := RefSig.tileCredit S2048x512 .f32
theorem NB_pos : 0 < NB := RefSig.tileCredit_pos _ _ (by decide)
theorem NX_pos : 0 < NX := RefSig.tileCredit_pos _ _ (by decide)

/-- To device `c`'s barrier by device `d`: the slice of `d`'s landing buffer that `c` writes, and that `d`'s cell for it is open. -/
def barPay (c d : Dev nD) : sProp 𝕄 := iprop((∃ f, cmP (F := F) d c f) ∗ reached ER (recvCell d c) 0)

/-- The turn whose chunk the round `r` of the streaming cell `s` brings. -/
def turnOf (s : Fin 2) (r : ℕ) : Fin 4 := ⟨(2 * r + s.val) % 4, Nat.mod_lt _ (by decide)⟩

def xPay (xs : Dev nD → main_arg0.ty.Contents (Elt F)) (c : Dev nD) (s : Fin 2) (r : ℕ) : sProp 𝕄 :=
  iprop(xfGot xs c s (turn c (turnOf s r)) ∗ xP c (turn c (turnOf s r)) (xs c))

def dutiesOf (c : Dev nD) (r : ℕ) : Kind → Finset (Dev nD)
  | .bar => if r = 0 then Finset.univ.erase c else ∅
  | .x _ => if r < 2 then {c} else ∅
  | .send d => if r = 0 ∧ d ≠ c then {c} else ∅
  | .recv j => if r = 0 ∧ j ≠ c then {j} else ∅
  | .none => ∅

def amountOf : Kind → ℕ
  | .bar => 1
  | .x _ => NX
  | _ => NB

theorem amountOf_pos (k : Kind) : 0 < amountOf k := by
  cases k <;> first | exact Nat.one_pos | exact NX_pos | exact NB_pos

def payOf (xs : Dev nD → main_arg0.ty.Contents (Elt F)) (c : Dev nD) (r : ℕ) (d : Dev nD) : Kind → sProp 𝕄
  | .bar => barPay c d
  | .x s => xPay xs c s r
  | .send d => xbP c d (XB xs c)
  | .recv j => cmGot xs c j
  | .none => iprop(emp)

def sched (xs : Dev nD → main_arg0.ty.Contents (Elt F)) : Rounds.Schedule (GSem nD τ sig) (Dev nD) 𝕄 where
  duties g r := if g.1.2 = .tc then dutiesOf g.1.1 r (kind g.2) else ∅
  unitless _ := False
  amount g _ _ := amountOf (kind g.2)
  payload g r d := payOf xs g.1.1 r d (kind g.2)
  amount_pos g _ _ _ := amountOf_pos (kind g.2)

instance sched_storable (xs : Dev nD → main_arg0.ty.Contents (Elt F)) (g : GSem nD τ sig) (r : ℕ) (d : Dev nD) :
    BI.Storable (upEmb : UEmb _ 𝕄) ((sched xs).payload g r d) := by
  show BI.Storable upEmb (payOf xs g.1.1 r d (kind g.2))
  cases kind g.2 <;> (unfold payOf; try unfold barPay; try unfold xPay; try unfold cmGot; try unfold xfGot) <;> infer_instance

section Tables

variable (xs : Dev nD → main_arg0.ty.Contents (Elt F)) (c : Dev nD)

theorem duties_bar : (sched xs).duties (barCell c) 0 = Finset.univ.erase c := rfl
theorem duties_x (s : Fin 2) (r : ℕ) (hr : r < 2) : (sched xs).duties (xCell c s) r = {c} := by
  dsimp only [sched]; rw [if_pos rfl, kind_x]; exact if_pos hr
theorem duties_send (d : Dev nD) (h : d ≠ c) : (sched xs).duties (sendCell c d) 0 = {c} := by
  dsimp only [sched]; rw [if_pos rfl, kind_send]; exact if_pos ⟨rfl, h⟩
theorem duties_send_self : (sched xs).duties (sendCell c c) 0 = ∅ := by
  dsimp only [sched]; rw [if_pos rfl, kind_send]; exact if_neg fun h => h.2 rfl
theorem duties_recv (j : Dev nD) (h : j ≠ c) : (sched xs).duties (recvCell c j) 0 = {j} := by
  dsimp only [sched]; rw [if_pos rfl, kind_recv]; exact if_pos ⟨rfl, h⟩
theorem duties_recv_self : (sched xs).duties (recvCell c c) 0 = ∅ := by
  dsimp only [sched]; rw [if_pos rfl, kind_recv]; exact if_neg fun h => h.2 rfl

theorem amount_bar (r : ℕ) (d : Dev nD) : (sched xs).amount (barCell c) r d = 1 := rfl
theorem amount_x (s : Fin 2) (r : ℕ) (d : Dev nD) : (sched xs).amount (xCell c s) r d = NX := by
  dsimp only [sched]; rw [kind_x]; rfl
theorem amount_send (e : Dev nD) (r : ℕ) (d : Dev nD) : (sched xs).amount (sendCell c e) r d = NB := by
  dsimp only [sched]; rw [kind_send]; rfl
theorem amount_recv (j : Dev nD) (r : ℕ) (d : Dev nD) : (sched xs).amount (recvCell c j) r d = NB := by
  dsimp only [sched]; rw [kind_recv]; rfl

theorem payload_bar (r : ℕ) (d : Dev nD) : (sched xs).payload (barCell c) r d = barPay c d := rfl
theorem payload_x (s : Fin 2) (r : ℕ) (d : Dev nD) : (sched xs).payload (xCell c s) r d = xPay xs c s r := by
  dsimp only [sched]; rw [kind_x]; rfl
theorem payload_send (e : Dev nD) (r : ℕ) (d : Dev nD) : (sched xs).payload (sendCell c e) r d = xbP c e (XB xs c) := by
  dsimp only [sched]; rw [kind_send]; rfl
theorem payload_recv (j : Dev nD) (r : ℕ) (d : Dev nD) : (sched xs).payload (recvCell c j) r d = cmGot xs c j := by
  dsimp only [sched]; rw [kind_recv]; rfl

theorem expect_bar : (sched xs).expect (barCell c) 0 = 15 := by
  unfold Schedule.expect Schedule.amountOf
  rw [duties_bar, Finset.sum_congr rfl (fun d _ => amount_bar xs c 0 d), Finset.sum_const, smul_eq_mul, mul_one,
    Finset.card_erase_of_mem (Finset.mem_univ c)]
  rfl
theorem expect_x (s : Fin 2) (r : ℕ) (hr : r < 2) : (sched xs).expect (xCell c s) r = NX := by
  unfold Schedule.expect Schedule.amountOf; rw [duties_x xs c s r hr, Finset.sum_singleton, amount_x]
theorem expect_send (d : Dev nD) (h : d ≠ c) : (sched xs).expect (sendCell c d) 0 = NB := by
  unfold Schedule.expect Schedule.amountOf; rw [duties_send xs c d h, Finset.sum_singleton, amount_send]
theorem expect_recv (j : Dev nD) (h : j ≠ c) : (sched xs).expect (recvCell c j) 0 = NB := by
  unfold Schedule.expect Schedule.amountOf; rw [duties_recv xs c j h, Finset.sum_singleton, amount_recv]

theorem rest_bar : bigSep ((sched xs).duties (barCell c) 0 \ ∅) (fun d => (sched xs).payload (barCell c) 0 d)
    = bigSep (Finset.univ.erase c) (fun d => barPay (F := F) c d) := by
  rw [Finset.sdiff_empty, duties_bar]; rfl
theorem rest_x (s : Fin 2) (r : ℕ) (hr : r < 2) :
    bigSep ((sched xs).duties (xCell c s) r \ ∅) (fun d => (sched xs).payload (xCell c s) r d) = xPay xs c s r := by
  rw [Finset.sdiff_empty, duties_x xs c s r hr, bigSep_singleton, payload_x]
theorem rest_send (d : Dev nD) (h : d ≠ c) :
    bigSep ((sched xs).duties (sendCell c d) 0 \ ∅) (fun e => (sched xs).payload (sendCell c d) 0 e) = xbP c d (XB xs c) := by
  rw [Finset.sdiff_empty, duties_send xs c d h, bigSep_singleton, payload_send]
theorem rest_recv (j : Dev nD) (h : j ≠ c) :
    bigSep ((sched xs).duties (recvCell c j) 0 \ ∅) (fun e => (sched xs).payload (recvCell c j) 0 e) = cmGot xs c j := by
  rw [Finset.sdiff_empty, duties_recv xs c j h, bigSep_singleton, payload_recv]

/-- The round from which a cell has no duty. -/
theorem later_bar (r : ℕ) (hr : 1 ≤ r) : (sched xs).duties (barCell c) r = ∅ := by
  dsimp only [sched]; rw [if_pos rfl, kind_bar]; exact if_neg (by omega)
theorem later_x (s : Fin 2) (r : ℕ) (hr : 2 ≤ r) : (sched xs).duties (xCell c s) r = ∅ := by
  dsimp only [sched]; rw [if_pos rfl, kind_x]; exact if_neg (by omega)
theorem later_send (d : Dev nD) (r : ℕ) (hr : (if d = c then 0 else 1) ≤ r) : (sched xs).duties (sendCell c d) r = ∅ := by
  dsimp only [sched]; rw [if_pos rfl, kind_send]
  refine if_neg fun h => ?_
  rw [if_neg h.2] at hr; omega
theorem later_recv (j : Dev nD) (r : ℕ) (hr : (if j = c then 0 else 1) ≤ r) : (sched xs).duties (recvCell c j) r = ∅ := by
  dsimp only [sched]; rw [if_pos rfl, kind_recv]
  refine if_neg fun h => ?_
  rw [if_neg h.2] at hr; omega

end Tables

/-! ## What a device owes, and the levels -/

/-- The receive credits device `c` owes to the devices of `T`. -/
def owedR (c : Dev nD) (T : Finset (Dev nD)) : CellTallies nD τ sig Unit := ∑ p ∈ T, tallyAt (recvCell p c) () NB
/-- The barrier units device `c` owes to the devices of `T`. -/
def owedB (T : Finset (Dev nD)) : CellTallies nD τ sig Unit := ∑ p ∈ T, tallyAt (barCell p) () 1
/-- Everything, at launch. -/
def O₀ (c : Dev nD) : CellTallies nD τ sig Unit := owedR c (Finset.univ.erase c) + owedB (Finset.univ.erase c)

theorem owedR_erase (c : Dev nD) (T : Finset (Dev nD)) (d : Dev nD) (h : d ∈ T) :
    owedR c T = owedR c (T.erase d) + tallyAt (recvCell d c) () NB := by
  unfold owedR; exact (Finset.sum_erase_add _ _ h).symm
theorem owedB_erase (T : Finset (Dev nD)) (d : Dev nD) (h : d ∈ T) :
    owedB T = owedB (T.erase d) + tallyAt (barCell d) () 1 := by
  unfold owedB; exact (Finset.sum_erase_add _ _ h).symm
theorem owedR_empty (c : Dev nD) : owedR c ∅ = 0 := Finset.sum_empty
theorem owedB_empty : owedB ∅ = 0 := Finset.sum_empty

def L (g : GSem nD τ sig) : Finset Unit := if g.1.2 = .tc then {()} else ∅
def lvK : Kind → ℕ
  | .bar => 1
  | .recv _ => 2
  | _ => 0
/-- Barrier cells at 1, receive cells at 2, everything else at 0. -/
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c j : Dev nD) : lv (recvCell c j) () = 2 := by unfold lv; rw [kind_recv]; rfl
theorem lv_x (c : Dev nD) (s : Fin 2) : lv (xCell c s) () = 0 := by unfold lv; rw [kind_x]; rfl

theorem owedR_pos (c : Dev nD) (T : Finset (Dev nD)) (g : GSem nD τ sig) (u : Unit) (h : 0 < owedR c T g u) :
    ∃ p, g = recvCell p c := by
  by_contra hn
  rw [owedR, Finset.sum_apply, Finsupp.finset_sum_apply] at h
  rw [Finset.sum_eq_zero fun p _ => by rw [tallyAt_apply]; exact if_neg fun e => hn ⟨p, e.1⟩] at h
  exact absurd h (Nat.lt_irrefl 0)
theorem owedB_pos (T : Finset (Dev nD)) (g : GSem nD τ sig) (u : Unit) (h : 0 < owedB T g u) : ∃ p, g = barCell p := by
  by_contra hn
  rw [owedB, Finset.sum_apply, Finsupp.finset_sum_apply] at h
  rw [Finset.sum_eq_zero fun p _ => by rw [tallyAt_apply]; exact if_neg fun e => hn ⟨p, e.1⟩] at h
  exact absurd h (Nat.lt_irrefl 0)
theorem O₀_pos (c : Dev nD) (g : GSem nD τ sig) (u : Unit) (h : 0 < O₀ c g u) :
    (∃ p, g = recvCell p c) ∨ ∃ p, g = barCell p := by
  by_contra hn
  rw [not_or] at hn
  have h1 : owedR c (Finset.univ.erase c) g u = 0 := Nat.eq_zero_of_not_pos fun h => hn.1 (owedR_pos c _ g u h)
  have h2 : owedB (Finset.univ.erase c) g u = 0 := Nat.eq_zero_of_not_pos fun h => hn.2 (owedB_pos _ g u h)
  have : O₀ c g u = owedR c (Finset.univ.erase c) g u + owedB (Finset.univ.erase c) g u := rfl
  omega

/-- A wait at a level below the receive cells', while receive credits are owed. -/
theorem mayWait_recv (c : Dev nD) (T : Finset (Dev nD)) (sm : SemLoc sig) (h : lv ((c : Thread nD τ), sm) () ≤ 1) :
    (levAts L lv : sProp 𝕄) ⊢ MayWait (c : Thread nD τ) sm () (owedR c T) :=
  MayOwe.of_cut (L := L) (lev := lv) 1 (fun p hp => by rw [Finset.mem_singleton.mp hp, L_tc]; exact Finset.mem_singleton_self _)
    (fun g u hg => by obtain ⟨p, rfl⟩ := owedR_pos c T g u hg; rw [L_tc]; exact Finset.mem_singleton_self _)
    (fun p hp => by rw [Finset.mem_singleton.mp hp]; exact h)
    (fun g u hg => by obtain ⟨p, rfl⟩ := owedR_pos c T g u hg; rw [lv_recv]; decide)

end Cert.KernelIdeal.A2A
-- ==== Proof.Pieces.lean ====
/-
  The buffers cut into the pieces the protocol moves: the rows of each piece, the cut and its inverse, and what a piece
  reads once a chunk has been rounded into it or a block has landed in it.
-/
module

public import proofs.«01_k».proof.Proof.Sched
public import Idealize.ShloMosaic.Lib.Ring.FamCut
public import Idealize.ShloMosaic.Lib.Pipeline.ValueKit.Geometry

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Cutting a buffer along a partition -/

section Cut

variable {T : Type} [Fintype T] [DecidableEq T] {ℓ : Loc nD τ sig} (K : T → Finset (Idx ℓ))

theorem cut_eq (I : Finset (Idx ℓ)) (hd : ∀ t t', t ≠ t' → Disjoint (K t) (K t')) (hu : Finset.univ.biUnion K = I)
    (f : Buf (Elt F) ℓ) :
    (ℓ ↦[I]{fullShare} f : sProp 𝕄) = bigSep Finset.univ fun t => ℓ ↦[K t]{fullShare} f := by
  rw [← hu, pointsTo_biUnion Finset.univ K (fun t _ t' _ h => hd t t' h)]

theorem cut_ex (I : Finset (Idx ℓ)) (hd : ∀ t t', t ≠ t' → Disjoint (K t) (K t')) (hu : Finset.univ.biUnion K = I) :
    (iprop(∃ f, ℓ ↦[I]{fullShare} f) : sProp 𝕄) ⊢ bigSep Finset.univ fun t => iprop(∃ f, ℓ ↦[K t]{fullShare} f) := by
  iintro ⟨%f, H⟩
  have hm : (bigSep Finset.univ fun t => ℓ ↦[K t]{fullShare} f : sProp 𝕄) ⊢ bigSep Finset.univ fun t => iprop(∃ f, ℓ ↦[K t]{fullShare} f) :=
    bigSep_mono fun t _ => Ring.pointsTo_exists (K t) f
  iapply hm
  iapply (Entails.of_eq (cut_eq (F := F) K I hd hu f)) $$ H

theorem join_ex [Inhabited (Buf (Elt F) ℓ)] (I : Finset (Idx ℓ)) (hd : ∀ t t', t ≠ t' → Disjoint (K t) (K t')) (hu : Finset.univ.biUnion K = I) :
    (bigSep Finset.univ fun t => iprop(∃ f, ℓ ↦[K t]{fullShare} f) : sProp 𝕄) ⊢ iprop(∃ f, ℓ ↦[I]{fullShare} f) := by
  iintro H
  ihave H := (bigSep_exists_pi Finset.univ (fun t (f : Buf (Elt F) ℓ) => (ℓ ↦[K t]{fullShare} f : sProp 𝕄))) $$ H
  icases H with ⟨%fs, H⟩
  ihave H := (pointsTo_biUnion_join Finset.univ K fs default (fun t _ t' _ h => hd t t' h)) $$ H
  icases H with ⟨%g, -, H⟩
  rw [hu]
  iexists g; iexact H

end Cut

/-! ## The rows of each piece -/

theorem mem_xRow (q : Fin 4) (i : S8192x512.Idx) : i ∈ (xRow q).view.set ↔ (i 0).val / 2048 = q.val := by
  refine ValueKit.mem_set_slice_whole_iff main_arg0 (chunkR q) i (Rect.mem_set_unit.trans (Fin.forall_fin_two.trans ?_))
  have h1 : (i 1).val < 512 := (i 1).isLt
  show (q.val * 2048 ≤ (i 0).val ∧ (i 0).val < q.val * 2048 + 2048) ∧ (0 ≤ (i 1).val ∧ (i 1).val < 0 + 512) ↔ _
  omega
theorem mem_xbQ (q : Fin 4) (i : S8192x512.Idx) : i ∈ (xbM.access (chunkR q)).set ↔ (i 0).val / 2048 = q.val := by
  refine ValueKit.mem_set_slice_whole_iff cc0_scratch1 (chunkR q) i (Rect.mem_set_unit.trans (Fin.forall_fin_two.trans ?_))
  have h1 : (i 1).val < 512 := (i 1).isLt
  show (q.val * 2048 ≤ (i 0).val ∧ (i 0).val < q.val * 2048 + 2048) ∧ (0 ≤ (i 1).val ∧ (i 1).val < 0 + 512) ↔ _
  omega
theorem mem_xbBlk (d : Dev nD) (i : S8192x512.Idx) : i ∈ (xbBlk d).view.set ↔ (i 0).val / 512 = d.val := by
  refine ValueKit.mem_set_slice_whole_iff cc0_scratch1 (blkR d) i (Rect.mem_set_unit.trans (Fin.forall_fin_two.trans ?_))
  have h1 : (i 1).val < 512 := (i 1).isLt
  show (d.val * 512 ≤ (i 0).val ∧ (i 0).val < d.val * 512 + 512) ∧ (0 ≤ (i 1).val ∧ (i 1).val < 0 + 512) ↔ _
  omega
theorem set_xfSlot (s : Fin 2) : (xfSlot s).view.set = (xfM.access (slotR s)).set := View.set_reshape _ _
theorem mem_xfSlot (s : Fin 2) (i : S2x2048x512.Idx) : i ∈ (xfSlot s).view.set ↔ (i 0).val = s.val := by
  rw [set_xfSlot]
  refine ValueKit.mem_set_slice_whole_iff cc0_scratch0 (slotR s) i (Rect.mem_set_unit.trans ?_)
  have h1 : (i 1).val < 2048 := (i 1).isLt
  have h2 : (i 2).val < 512 := (i 2).isLt
  refine ⟨fun h => ?_, fun h a => ?_⟩
  · have h0 : s.val ≤ (i 0).val ∧ (i 0).val < s.val + 1 := h 0
    omega
  · fin_cases a
    · show s.val ≤ (i 0).val ∧ (i 0).val < s.val + 1
      omega
    · show 0 ≤ (i 1).val ∧ (i 1).val < 0 + 2048
      omega
    · show 0 ≤ (i 2).val ∧ (i 2).val < 0 + 512
      omega
theorem set_cmSl (j : Dev nD) : (cmSl j).view.set = (cmM.access (slR j)).set := View.set_reshape _ _
theorem mem_cmSl (j : Dev nD) (i : S16x512x512.Idx) : i ∈ (cmSl j).view.set ↔ (i 0).val = j.val := by
  rw [set_cmSl]
  refine ValueKit.mem_set_slice_whole_iff cc0_scratch2 (slR j) i (Rect.mem_set_unit.trans ?_)
  have h1 : (i 1).val < 512 := (i 1).isLt
  have h2 : (i 2).val < 512 := (i 2).isLt
  refine ⟨fun h => ?_, fun h a => ?_⟩
  · have h0 : j.val ≤ (i 0).val ∧ (i 0).val < j.val + 1 := h 0
    omega
  · fin_cases a
    · show j.val ≤ (i 0).val ∧ (i 0).val < j.val + 1
      omega
    · show 0 ≤ (i 1).val ∧ (i 1).val < 0 + 512
      omega
    · show 0 ≤ (i 2).val ∧ (i 2).val < 0 + 512
      omega

/-! ## The cuts -/

theorem disj_of {ι A : Type} [DecidableEq A] (S : ι → Finset A) (v : A → ℕ) (n : ι → ℕ)
    (hm : ∀ t a, a ∈ S t ↔ v a = n t) (hn : ∀ t t', n t = n t' → t = t') (t t' : ι) (h : t ≠ t') : Disjoint (S t) (S t') := by
  rw [Finset.disjoint_left]
  intro a h1 h2
  exact h (hn _ _ (((hm t a).mp h1).symm.trans ((hm t' a).mp h2)))

theorem xRow_univ : Finset.univ.biUnion (fun q : Fin 4 => (xRow q).view.set) = (Finset.univ : Finset S8192x512.Idx) := by
  refine Finset.eq_univ_iff_forall.mpr fun i => Finset.mem_biUnion.mpr ?_
  have h : (i 0).val < 8192 := (i 0).isLt
  exact ⟨⟨(i 0).val / 2048, by omega⟩, Finset.mem_univ _, (mem_xRow _ i).mpr rfl⟩
theorem xRow_disj : ∀ t t' : Fin 4, t ≠ t' → Disjoint (xRow t).view.set (xRow t').view.set :=
  disj_of _ (fun i : S8192x512.Idx => (i 0).val / 2048) (fun q => q.val) mem_xRow fun _ _ => Fin.ext
theorem x_cut (c : Dev nD) (f : main_arg0.ty.Contents (Elt F)) :
    (xM.view.loc (c : Thread nD τ) ↦{fullShare} f : sProp 𝕄) = bigSep Finset.univ fun q : Fin 4 => xP c q f :=
  cut_eq (F := F) (ℓ := xM.view.loc (c : Thread nD τ)) (fun q : Fin 4 => (xRow q).view.set) Finset.univ xRow_disj xRow_univ f

theorem xf_univ : Finset.univ.biUnion (fun s : Fin 2 => (xfSlot s).view.set) = (Finset.univ : Finset S2x2048x512.Idx) := by
  refine Finset.eq_univ_iff_forall.mpr fun i => Finset.mem_biUnion.mpr ?_
  exact ⟨⟨(i 0).val, (i 0).isLt⟩, Finset.mem_univ _, (mem_xfSlot _ i).mpr rfl⟩
theorem xf_disj : ∀ t t' : Fin 2, t ≠ t' → Disjoint (xfSlot t).view.set (xfSlot t').view.set :=
  disj_of _ (fun i : S2x2048x512.Idx => (i 0).val) (fun s => s.val) mem_xfSlot fun _ _ => Fin.ext
theorem xf_cut (c : Dev nD) : (iprop(∃ f, xfM.view.loc (c : Thread nD τ) ↦{fullShare} f) : sProp 𝕄)
    ⊢ bigSep Finset.univ fun s : Fin 2 => iprop(∃ f, xfP (F := F) c s f) :=
  cut_ex (F := F) (ℓ := xfM.view.loc (c : Thread nD τ)) (fun s : Fin 2 => (xfSlot s).view.set) Finset.univ xf_disj xf_univ
theorem xf_join (c : Dev nD) : (bigSep Finset.univ fun s : Fin 2 => iprop(∃ f, xfP (F := F) c s f) : sProp 𝕄)
    ⊢ iprop(∃ f, xfM.view.loc (c : Thread nD τ) ↦{fullShare} f) :=
  letI : Inhabited (Buf (Elt F) (xfM.view.loc (c : Thread nD τ))) := ⟨fun _ => (FloatOps.ofBits .f32 0)⟩
  join_ex (F := F) (ℓ := xfM.view.loc (c : Thread nD τ)) (fun s : Fin 2 => (xfSlot s).view.set) Finset.univ xf_disj xf_univ

theorem xbQ_univ : Finset.univ.biUnion (fun q : Fin 4 => (xbM.access (chunkR q)).set) = (Finset.univ : Finset S8192x512.Idx) := by
  refine Finset.eq_univ_iff_forall.mpr fun i => Finset.mem_biUnion.mpr ?_
  have h : (i 0).val < 8192 := (i 0).isLt
  exact ⟨⟨(i 0).val / 2048, by omega⟩, Finset.mem_univ _, (mem_xbQ _ i).mpr rfl⟩
theorem xbQ_disj : ∀ t t' : Fin 4, t ≠ t' → Disjoint (xbM.access (chunkR t)).set (xbM.access (chunkR t')).set :=
  disj_of _ (fun i : S8192x512.Idx => (i 0).val / 2048) (fun q => q.val) mem_xbQ fun _ _ => Fin.ext
theorem xb_cut (c : Dev nD) : (iprop(∃ f, xbM.view.loc (c : Thread nD τ) ↦{fullShare} f) : sProp 𝕄)
    ⊢ bigSep Finset.univ fun q : Fin 4 => iprop(∃ f, xbQ (F := F) c q f) :=
  cut_ex (F := F) (ℓ := xbM.view.loc (c : Thread nD τ)) (fun q : Fin 4 => (xbM.access (chunkR q)).set) Finset.univ xbQ_disj xbQ_univ

/-- The chunk of a turn is the four blocks it sends. -/
theorem xbQ_cut (c : Dev nD) (cs : Fin 4) (f : cc0_scratch1.ty.Contents (Elt F)) :
    (xbQ c (turn c cs) f : sProp 𝕄) = bigSep Finset.univ fun r : Fin 4 => xbP c (peer c cs r) f := by
  have hp : ∀ r : Fin 4, (peer c cs r).val = (c.val / 4 + 1 + cs.val) % 4 * 4 + (c.val % 4 + r.val) % 4 := fun _ => rfl
  have ht : (turn c cs).val = (c.val / 4 + 1 + cs.val) % 4 := rfl
  refine cut_eq (F := F) (ℓ := xbM.view.loc (c : Thread nD τ)) (fun r : Fin 4 => (xbBlk (peer c cs r)).view.set) _
    (disj_of _ (fun i : S8192x512.Idx => (i 0).val / 512) (fun r => (peer c cs r).val) (fun r => mem_xbBlk _) fun r r' h => ?_) ?_ f
  · have h' : (peer c cs r).val = (peer c cs r').val := h
    rw [hp, hp] at h'
    have := r.isLt; have := r'.isLt
    exact Fin.ext (by omega)
  · ext i
    have hi : (i 0).val < 8192 := (i 0).isLt
    rw [Finset.mem_biUnion, mem_xbQ, ht]
    constructor
    · rintro ⟨r, -, h⟩
      rw [mem_xbBlk, hp] at h
      omega
    · intro h
      refine ⟨⟨((i 0).val / 512 + 4 - c.val % 4) % 4, Nat.mod_lt _ (by decide)⟩, Finset.mem_univ _, ?_⟩
      rw [mem_xbBlk, hp]
      show _ = _ + (c.val % 4 + ((i 0).val / 512 + 4 - c.val % 4) % 4) % 4
      omega

theorem xbBlk_univ : Finset.univ.biUnion (fun d : Dev nD => (xbBlk d).view.set) = (Finset.univ : Finset S8192x512.Idx) := by
  refine Finset.eq_univ_iff_forall.mpr fun i => Finset.mem_biUnion.mpr ?_
  have h : (i 0).val < 8192 := (i 0).isLt
  exact ⟨⟨(i 0).val / 512, by show _ < 16; omega⟩, Finset.mem_univ _, (mem_xbBlk _ i).mpr rfl⟩
theorem xbBlk_disj : ∀ t t' : Dev nD, t ≠ t' → Disjoint (xbBlk t).view.set (xbBlk t').view.set :=
  disj_of _ (fun i : S8192x512.Idx => (i 0).val / 512) (fun d => d.val) mem_xbBlk fun _ _ => Fin.ext
theorem xb_join (c : Dev nD) : (bigSep Finset.univ fun d : Dev nD => iprop(∃ f, xbP (F := F) c d f) : sProp 𝕄)
    ⊢ iprop(∃ f, xbM.view.loc (c : Thread nD τ) ↦{fullShare} f) :=
  letI : Inhabited (Buf (Elt F) (xbM.view.loc (c : Thread nD τ))) := ⟨fun _ => (FloatOps.ofBits .bf16 0)⟩
  join_ex (F := F) (ℓ := xbM.view.loc (c : Thread nD τ)) (fun d : Dev nD => (xbBlk d).view.set) Finset.univ xbBlk_disj xbBlk_univ

theorem cm_univ : Finset.univ.biUnion (fun j : Dev nD => (cmSl j).view.set) = (Finset.univ : Finset S16x512x512.Idx) := by
  refine Finset.eq_univ_iff_forall.mpr fun i => Finset.mem_biUnion.mpr ?_
  exact ⟨⟨(i 0).val, (i 0).isLt⟩, Finset.mem_univ _, (mem_cmSl _ i).mpr rfl⟩
theorem cm_disj : ∀ t t' : Dev nD, t ≠ t' → Disjoint (cmSl t).view.set (cmSl t').view.set :=
  disj_of _ (fun i : S16x512x512.Idx => (i 0).val) (fun s => s.val) mem_cmSl fun _ _ => Fin.ext
theorem cm_cut (c : Dev nD) : (iprop(∃ f, cmM.view.loc (c : Thread nD τ) ↦{fullShare} f) : sProp 𝕄)
    ⊢ bigSep Finset.univ fun j : Dev nD => iprop(∃ f, cmP (F := F) c j f) :=
  cut_ex (F := F) (ℓ := cmM.view.loc (c : Thread nD τ)) (fun j : Dev nD => (cmSl j).view.set) Finset.univ cm_disj cm_univ
theorem cm_join (c : Dev nD) : (bigSep Finset.univ fun j : Dev nD => iprop(∃ f, cmP (F := F) c j f) : sProp 𝕄)
    ⊢ iprop(∃ f, cmM.view.loc (c : Thread nD τ) ↦{fullShare} f) :=
  letI : Inhabited (Buf (Elt F) (cmM.view.loc (c : Thread nD τ))) := ⟨fun _ => (FloatOps.ofBits .bf16 0)⟩
  join_ex (F := F) (ℓ := cmM.view.loc (c : Thread nD τ)) (fun j : Dev nD => (cmSl j).view.set) Finset.univ cm_disj cm_univ

/-! ## What is read and written -/

variable (xs : Dev nD → main_arg0.ty.Contents (Elt F))

/-- Loading the slot of the streaming buffer: the chunk with a unit axis before it. -/
theorem slot_read (s : Fin 2) (f : cc0_scratch0.ty.Contents (Elt F)) (y : S2048x512.Idx) :
    (xfM.access (slotR s)).read (Elt F) f (Shape.reshapeEquiv (Shape.Squeezes.numel_eq squeezes_S1x2048x512_S2048x512) y)
      = (xfSlot s).view.read (Elt F) f y := rfl

/-- A rounded chunk, element by element. -/
theorem pay4_apply (v : Vec F S1x2048x512 .f32) (y : S2048x512.Idx) :
    k0_pay4 v y = FloatOps.truncf (F := F) (φ := .f32) .bf16 bitsLt_bf16_f32
      (v (Shape.reshapeEquiv (Shape.Squeezes.numel_eq squeezes_S1x2048x512_S2048x512) y)) := by
  unfold k0_pay4
  rw [shapeCast_self]
  rfl

/-- Rounding the chunk in a slot into its rows of the rounded input leaves those rows as they should be. -/
theorem chunk_stored (c : Dev nD) (s : Fin 2) (q : Fin 4) (f : cc0_scratch0.ty.Contents (Elt F))
    (h : (xfSlot s).view.read (Elt F) f = (xRow q).view.read (Elt F) (xs c)) (g : cc0_scratch1.ty.Contents (Elt F)) :
    (xbQ c q ((xbM.access (chunkR q)).write (Elt F) g (k0_pay4 ((xfM.access (slotR s)).read (Elt F) f)) Finset.univ) : sProp 𝕄)
      = xbQ c q (XB xs c) := by
  refine pointsTo_congr fun i hi => ?_
  obtain ⟨y, -, rfl⟩ := Finset.mem_map.mp hi
  rw [View.write_emb_of_mem _ _ (Finset.mem_univ y), pay4_apply, slot_read, h]
  rfl

/-- A landed block, loaded with a unit axis before it. -/
theorem landed_read (c j : Dev nD) (f : cc0_scratch2.ty.Contents (Elt F)) (h : (cmSl j).view.read (Elt F) f = blk xs j c) :
    shapeCast S512x512 ((cmM.access (slR j)).read (Elt F) f) shapeCasts_S1x512x512_S512x512 = blk xs j c := h

/-- The device's own block, loaded from the rounded input. -/
theorem own_read (c : Dev nD) : (xbM.access (blkR c)).read (Elt F) (XB xs c) = blk xs c c := rfl

end Cert.KernelIdeal.A2A
-- ==== Proof.Steps.lean ====
/-
  One lemma for each kind of step the kernel takes: a signal of the barrier, the wait on it, the start of the copy of a
  chunk and the wait for it, the rounding of a chunk, the sending of a block, and the waits for a received and for a
  sent block. Each is stated at the offsets the program computes, with an equation that says which piece they name.
-/
module

public import proofs.«01_k».proof.Proof.Pieces

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families over the devices -/

theorem fam_take {I : Type} [DecidableEq I] {S : Finset I} {d : I} (h : d ∈ S) (Φ : I → sProp 𝕄) :
    bigSep S Φ ⊢ iprop(Φ d ∗ bigSep (S.erase d) Φ) := Entails.of_eq (BI.bigSep_erase h)
theorem fam_put {I : Type} [DecidableEq I] {U S : Finset I} {d : I} (hU : d ∈ U) (h : d ∈ S) (Ψ : I → sProp 𝕄) :
    iprop(Ψ d ∗ bigSep (U \ S) Ψ) ⊢ bigSep (U \ S.erase d) Ψ := by
  have e : U \ S.erase d = insert d (U \ S) := by
    ext x; simp only [Finset.mem_sdiff, Finset.mem_erase, Finset.mem_insert]
    by_cases hx : x = d
    · subst hx; simp [hU]
    · simp [hx]
  rw [e]
  exact Entails.of_eq (BI.bigSep_insert (by simp [h])).symm

/-! ## The invariants -/

/-- A device's semaphores of the region, in order: two of the streamed input, sixteen send, sixteen receive. -/
abbrev osem : Fin 34 → SemLoc sig := fun k => .dma ⟨3 + k.val, by have := k.isLt; show _ < 37; omega⟩

def barE : Dev nD ↪ GSem nD τ sig := ⟨barCell, fun a b h => congrArg (fun g => g.1.1) h⟩
def scE : Dev nD × Fin 34 ↪ GSem nD τ sig := ⟨fun p => ((p.1 : Thread nD τ), osem p.2), fun a b h => by
  have h1 : a.1 = b.1 := congrArg (fun g => g.1.1) h
  have h2 : osem a.2 = osem b.2 := congrArg (fun g => g.2) h
  have h3 : 3 + a.2.val = 3 + b.2.val := by
    have := SemLoc.dma.inj h2
    exact congrArg Fin.val this
  exact Prod.ext h1 (Fin.ext (by omega))⟩
def bars : Finset (GSem nD τ sig) := Finset.univ.map barE
def scs : Finset (GSem nD τ sig) := Finset.univ.map scE

theorem bar_mem (c : Dev nD) : barCell c ∈ bars ∪ scs :=
  Finset.mem_union_left _ (Finset.mem_map.mpr ⟨c, Finset.mem_univ _, rfl⟩)
theorem sc_mem (c : Dev nD) (k : Fin 34) : ((c : Thread nD τ), osem k) ∈ bars ∪ scs :=
  Finset.mem_union_right _ (Finset.mem_map.mpr ⟨(c, k), Finset.mem_univ _, rfl⟩)
theorem osem_x (s : Fin 2) : osem ⟨s.val, by have := s.isLt; omega⟩ = .dma (xSem s) := rfl
theorem osem_send (d : Dev nD) : osem ⟨2 + d.val, by have h : d.val < 16 := d.isLt; omega⟩ = .dma (sendSem d) := by
  revert d; decide
theorem osem_recv (d : Dev nD) : osem ⟨18 + d.val, by have h : d.val < 16 := d.isLt; omega⟩ = .dma (recvSem d) := by
  revert d; decide
theorem x_mem (c : Dev nD) (s : Fin 2) : xCell c s ∈ bars ∪ scs := by
  have := sc_mem c ⟨s.val, by have := s.isLt; omega⟩; rwa [osem_x] at this
theorem send_mem (c d : Dev nD) : sendCell c d ∈ bars ∪ scs := by
  have := sc_mem c ⟨2 + d.val, by have h : d.val < 16 := d.isLt; omega⟩; rwa [osem_send] at this
theorem recv_mem (c d : Dev nD) : recvCell c d ∈ bars ∪ scs := by
  have := sc_mem c ⟨18 + d.val, by have h : d.val < 16 := d.isLt; omega⟩; rwa [osem_recv] at this

variable (xs : Dev nD → main_arg0.ty.Contents (Elt F)) (K : GSem nD τ sig → ℕ)

/-- Every cell's invariant, and the levels. -/
def invs : sProp 𝕄 := iprop((bigSep (bars ∪ scs) fun g => cellInv ER (sched xs) (K g) g) ∗ levAts L lv)

instance invs_persistent : BI.Persistent (invs xs K : sProp 𝕄) := by unfold invs; infer_instance

theorem invs_cell (g : GSem nD τ sig) (h : g ∈ bars ∪ scs) :
    (invs xs K : sProp 𝕄) ⊢ cellInv ER (sched xs) (K g) g := by
  unfold invs
  iintro ⟨H, -⟩
  ihave H := (fam_take h (fun g => cellInv ER (sched xs) (K g) g)) $$ H
  icases H with ⟨H, -⟩
  iexact H
theorem invs_lev : (invs xs K : sProp 𝕄) ⊢ levAts L lv := by
  unfold invs
  iintro ⟨-, H⟩; iexact H

abbrev 𝒱₀ : Variants := Variants.none

/-- The run of a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- What device `c` needs to signal device `p`. -/
def SigRes (c p : Dev nD) : sProp 𝕄 :=
  iprop(dutyTok ER (barCell p) 0 c ∗ reached ER (barCell p) 0 ∗ barPay (F := F) p c)

/-- Device `c` with the signals to the devices of `T` before it. -/
def SigSt (c : Dev nD) (T : Finset (Dev nD)) : sProp 𝕄 :=
  iprop((∃ W, owes (c : Thread nD τ) (owedR c (Finset.univ.erase c) + owedB T) W) ∗ bigSep T (SigRes (F := F) c))

theorem step_signal (c d : Dev nD) (T T' : Finset (Dev nD)) (hd : d ∈ T) (hc : d ≠ c) (hT : T.erase d = T')
    (dv : Dev nD) (hdv : dv = d) (sm : Sem sig) (hs : sm = barrier0)
    {α : Type} (k : PUnit → Prog (TpuEff nD τ sig (Elt F) Λ₀ .tc) α) (Q : α → sProp 𝕄) :
    iprop(invs xs K ∗ SigSt c T) ⊢ iprop((SigSt c T' -∗ run c (k ⟨⟩) Q)
      -∗ run c (.op (.semSignal (dv, .tc) sm (1#32 : BitVec 32).toInt) k) Q) := by
  subst hdv hs hT
  unfold SigSt
  iintro ⟨#HI, ⟨%W, HO⟩, HT⟩ Hk
  ihave HT := (fam_take hd (SigRes (F := F) c)) $$ HT
  unfold SigRes
  icases HT with ⟨⟨Ht, Hr, Hp⟩, HT⟩
  iapply (Rounds.wp_signal 𝒱₀ ER (sched xs) (c : Thread nD τ) none (dst := (dv : Thread nD τ)) (sem := barrier0) (r := 0) (d := c)
    (κ := K (barCell dv)) (k' := 1)
    (by rw [duties_bar]; exact Finset.mem_erase.mpr ⟨hc.symm, Finset.mem_univ _⟩) (amount_bar xs dv 0 c) ()
    (O₀ := owedR c (Finset.univ.erase c) + owedB T) (owedR c (Finset.univ.erase c) + owedB (T.erase dv)) (by rw [owedB_erase T dv hd, add_assoc])) $$ [HO Ht Hr Hp]
  · isplitr; · iapply (invs_cell xs K _ (bar_mem dv)); iexact HI
    isplitl [HO]; · iexact HO
    isplitl [Ht]; · iexact Ht
    isplitl [Hp]; · rw [payload_bar]; iexact Hp
    iexact Hr
  iintro HO
  iapply Hk
  isplitl [HO]; · iexists W; iexact HO
  iexact HT

/-- Device `c` owing the blocks to the devices of `T`. -/
def Owe (c : Dev nD) (T : Finset (Dev nD)) : sProp 𝕄 := iprop(∃ W, owes (c : Thread nD τ) (owedR c T) W)

theorem step_barrier (c : Dev nD) (sm : Sem sig) (hs : sm = barrier0)
    {α : Type} (k : PUnit → Prog (TpuEff nD τ sig (Elt F) Λ₀ .tc) α) (Q : α → sProp 𝕄) :
    iprop(invs xs K ∗ SigSt c ∅ ∗ cred (tallyAt (barCell c) () 15) ∗ atPos ER (barCell c) 0 ∅ 0)
      ⊢ iprop(((Owe c (Finset.univ.erase c) ∗ atPos ER (barCell c) 1 ∅ 0 ∗ bigSep (Finset.univ.erase c) (fun d => barPay (F := F) c d))
          -∗ run c (k ⟨⟩) Q)
        -∗ run c (.op (.semWait sm (15#32 : BitVec 32).toInt) k) Q) := by
  subst hs
  unfold SigSt Owe
  rw [owedB_empty, add_zero]
  iintro ⟨#HI, ⟨⟨%W, HO⟩, -⟩, Hc, Hat⟩ Hk
  iapply (Rounds.wp_wait_rest_token 𝒱₀ ER (sched xs) (c : Thread nD τ) none (κ := K (barCell c))
    (wpE_semWait_eq 𝒱₀ (c : Thread nD τ) none Set.univ) (Set.mem_univ _) () (O := owedR c (Finset.univ.erase c)) (W := W) (R := 0) (m := 0) (T := ∅)
    (k' := 15) ((Nat.zero_add 15).trans (expect_bar xs c).symm)) $$ [HO Hc Hat]
  · isplitr; · iapply (invs_cell xs K _ (bar_mem c)); iexact HI
    isplitl [Hc]; · iexact Hc
    isplitl [HO]; · iexact HO
    isplitr; · iapply (mayWait_recv c _ (.reg barrier0) (le_of_eq (lv_bar c))); iapply (invs_lev xs K); iexact HI
    iexact Hat
  iintro ⟨HO, Hat, -, Hp⟩
  ihave Hp := (Entails.of_eq (rest_bar xs c)) $$ Hp
  iapply Hk
  isplitl [HO]; · iexists _; iexact HO
  isplitl [Hat] <;> iassumption

/-! ## The streamed chunks -/

theorem turnOf_eq (cs : Fin 4) (s : Fin 2) (r : ℕ) (h : cs.val = 2 * r + s.val) : turnOf s r = cs :=
  Fin.ext (by have := cs.isLt; show (2 * r + s.val) % 4 = cs.val; omega)

/-- Start the copy of the chunk of turn `cs`. -/
theorem step_fetch (c : Dev nD) (cs : Fin 4) (s : Fin 2) (r : ℕ) (hr : r < 2) (hcs : cs.val = 2 * r + s.val)
    (o : Fin 2 → ℕ) (i : ∀ a, o a + S2048x512.size a ≤ S8192x512.size a) (ho : o = ![(turn c cs).val * 2048, 0])
    (o' : Fin 3 → ℕ) (i' : ∀ a, o' a + S1x2048x512.size a ≤ S2x2048x512.size a) (ho' : o' = ![s.val, 0, 0])
    (sm : DmaSem sig) (hs : sm = xSem s) {hsrc hdst hsem}
    {α : Type} (k : PUnit → Prog (TpuEff nD τ sig (Elt F) Λ₀ .tc) α) (Q : α → sProp 𝕄) :
    iprop(invs xs K ∗ xP c (turn c cs) (xs c) ∗ (∃ f, xfP (F := F) c s f) ∗ dutyTok ER (xCell c s) r c ∗ reached ER (xCell c s) r)
      ⊢ iprop((cred (tallyAt (xCell c s) () NX) -∗ run c (k ⟨⟩) Q)
        -∗ run c (.op (.enqueueDma (xM.slice (Rect.unit (s := S8192x512) o S2048x512.size i) (fun _ => rfl))
          (.here ((xfM.slice (Rect.unit (s := S2x2048x512) o' S1x2048x512.size i') (fun _ => rfl)).squeeze S2048x512 squeezes_S1x2048x512_S2048x512))
          (.dma sm) hsrc hdst hsem) k) Q) := by
  subst ho ho' hs
  iintro ⟨#HI, Hx, ⟨%f, Hf⟩, Ht, Hr⟩ Hk
  iapply (Rounds.wp_copy_pointsTo 𝒱₀ ER (sched xs) (c : Thread nD τ) none (src := xRow (turn c cs)) (dst := xfSlot s) (sem := .dma (xSem s))
    (q := fullShare) (fs := xs c) (fd := f) (r := r) (d := c) (κ := K (xCell c s))
    (by rw [duties_x xs c s r hr]; exact Finset.mem_singleton_self _) () NX rfl (amount_x xs c s r c)
    (by
      rw [payload_x]; unfold xPay; rw [turnOf_eq cs s r hcs]; unfold xfGot
      iintro ⟨H, Hx⟩
      isplitl [H]
      · iexists (xfSlot s).view.write (Elt F) f ((xRow (turn c cs)).view.read (Elt F) (xs c)) Finset.univ
        isplitr
        · ipureintro; exact View.read_write_univ _ _
        · iexact H
      · iexact Hx)) $$ [Hx Hf Ht Hr]
  · isplitr; · iapply (invs_cell xs K _ (x_mem c s)); iexact HI
    isplitl [Hx]; · iexact Hx
    isplitl [Hf]; · iexact Hf
    isplitl [Ht] <;> iassumption
  iexact Hk

/-- Wait for it. -/
theorem step_fetched (c : Dev nD) (cs : Fin 4) (s : Fin 2) (r : ℕ) (hr : r < 2) (hcs : cs.val = 2 * r + s.val) (T : Finset (Dev nD))
    (sm : DmaSem sig) (hs : sm = xSem s) {sp : Space} {s' : Shape} {e' : EltTy} (src : Memref sig .tc sp s' e')
    (dst : Memref sig .tc .vmem S2048x512 .f32) {hsrc : src.view.WordExact} {hdst : dst.view.WordExact}
    {α : Type} (k : PUnit → Prog (TpuEff nD τ sig (Elt F) Λ₀ .tc) α) (Q : α → sProp 𝕄) :
    iprop(invs xs K ∗ Owe c T ∗ cred (tallyAt (xCell c s) () NX) ∗ atPos ER (xCell c s) r ∅ 0)
      ⊢ iprop(((Owe c T ∗ atPos ER (xCell c s) (r + 1) ∅ 0 ∗ reached ER (xCell c s) (r + 1)
            ∗ xfGot xs c s (turn c cs) ∗ xP c (turn c cs) (xs c)) -∗ run c (k ⟨⟩) Q)
        -∗ run c (.op (.waitDma2 sm src dst hsrc hdst) k) Q) := by
  subst hs
  unfold Owe
  iintro ⟨#HI, ⟨%W, HO⟩, Hc, Hat⟩ Hk
  iapply (Rounds.wp_wait_rest_token 𝒱₀ ER (sched xs) (c : Thread nD τ) none (κ := K (xCell c s))
    (wpE_waitDma2_eq (src := src) (dst := dst) 𝒱₀ (c : Thread nD τ) none Set.univ) (Set.mem_univ _) () (O := owedR c T) (W := W) (R := r) (m := 0) (T := ∅)
    ((Nat.zero_add _).trans (expect_x xs c s r hr).symm)) $$ [HO Hc Hat]
  · isplitr; · iapply (invs_cell xs K _ (x_mem c s)); iexact HI
    isplitl [Hc]; · iexact Hc
    isplitl [HO]; · iexact HO
    isplitr; · iapply (mayWait_recv c T (.dma (xSem s)) (by rw [lv_x]; exact Nat.zero_le _)); iapply (invs_lev xs K); iexact HI
    iexact Hat
  iintro ⟨HO, Hat, Hr, Hp⟩
  ihave Hp := (Entails.of_eq (rest_x xs c s r hr)) $$ Hp
  unfold xPay
  rw [turnOf_eq cs s r hcs]
  icases Hp with ⟨Hf, Hx⟩
  iapply Hk
  isplitl [HO]; · iexists _; iexact HO
  isplitl [Hat]; · iexact Hat
  isplitl [Hr]; · iexact Hr
  isplitl [Hf] <;> iassumption

/-- Round the chunk of turn `cs` into its rows: the four blocks it sends are ready. -/
theorem step_round (c : Dev nD) (cs : Fin 4) (s : Fin 2)
    (o : Fin 2 → ℕ) (i : ∀ a, o a + S2048x512.size a ≤ S8192x512.size a) (ho : o = ![(turn c cs).val * 2048, 0])
    (o' : Fin 3 → ℕ) (i' : ∀ a, o' a + S1x2048x512.size a ≤ S2x2048x512.size a) (ho' : o' = ![s.val, 0, 0])
    (pay : Vec F S1x2048x512 .f32 → FVec F S2048x512 .bf16) (hp : pay = k0_pay4) {hl hl' hst hm}
    {α : Type} (k : PUnit → Prog (TpuEff nD τ sig (Elt F) Λ₀ .tc) α) (Q : α → sProp 𝕄) :
    iprop(xfGot xs c s (turn c cs) ∗ (∃ f, xbQ (F := F) c (turn c cs) f))
      ⊢ iprop((((∃ f, xfP (F := F) c s f) ∗ bigSep Finset.univ (fun r : Fin 4 => xbP c (peer c cs r) (XB xs c))) -∗ run c (k ⟨⟩) Q)
        -∗ run c (.op (.load xfM (Rect.unit (s := S2x2048x512) o' S1x2048x512.size i').toLoadRect hl) fun v =>
            .op (.load xbM (Rect.unit (s := S8192x512) o S2048x512.size i).toLoadRect hl') fun _ =>
            .op (.store xbM (Rect.unit (s := S8192x512) o S2048x512.size i) (pay v) Finset.univ hst hm) k) Q) := by
  subst ho ho' hp
  unfold xfGot
  iintro ⟨⟨%f, %hf, Hf⟩, ⟨%g, Hg⟩⟩ Hk
  iapply (wp_load_rect 𝒱₀ (c : Thread nD τ) none Set.univ (m := xfM) (r := slotR s) (S := (xfSlot s).view.set) (q := fullShare) (f := f)
    (Finset.Subset.refl _ |>.trans (by rw [set_xfSlot]))) $$ Hf
  iintro Hf
  iapply (wp_load_rect 𝒱₀ (c : Thread nD τ) none Set.univ (m := xbM) (r := chunkR (turn c cs)) (S := (xbM.access (chunkR (turn c cs))).set)
    (q := fullShare) (f := g) (Finset.Subset.refl _)) $$ Hg
  iintro Hg
  iapply (wp_store 𝒱₀ (c : Thread nD τ) none Set.univ (m := xbM) (r := chunkR (turn c cs)) (S := (xbM.access (chunkR (turn c cs))).set)
    (f := g) (Finset.Subset.refl _)) $$ Hg
  iintro Hg
  ihave Hg := (Entails.of_eq ((chunk_stored xs c s (turn c cs) f hf g).trans (xbQ_cut c cs (XB xs c)))) $$ Hg
  iapply Hk
  isplitl [Hf]; · iexists f; iexact Hf
  iexact Hg

/-! ## Sending a block -/

/-- What device `c` needs to send device `d` its block. -/
def SendRes (c d : Dev nD) : sProp 𝕄 :=
  iprop(dutyTok ER (sendCell c d) 0 c ∗ reached ER (sendCell c d) 0 ∗ dutyTok ER (recvCell d c) 0 c ∗ barPay (F := F) c d)

/-- Device `c` with the blocks to the devices of `T` before it. -/
def SendSt (c : Dev nD) (T : Finset (Dev nD)) : sProp 𝕄 :=
  iprop(Owe (F := F) c T ∗ bigSep T (SendRes (F := F) c)
    ∗ bigSep (Finset.univ.erase c \ T) (fun d => cred (tallyAt (sendCell c d) () NB)))

theorem step_send (c d : Dev nD) (T T' : Finset (Dev nD)) (hd : d ∈ T) (hc : d ≠ c) (hT : T.erase d = T')
    (o : Fin 2 → ℕ) (i : ∀ a, o a + S512x512.size a ≤ S8192x512.size a) (ho : o = ![d.val * 512, 0])
    (o' : Fin 3 → ℕ) (i' : ∀ a, o' a + S1x512x512.size a ≤ S16x512x512.size a) (ho' : o' = ![c.val, 0, 0])
    (dv : Dev nD) (hdv : dv = d) (ss rs : DmaSem sig) (hss : ss = sendSem d) (hrs : rs = recvSem c) {hsrc hdst hsem}
    {α : Type} (k : PUnit → Prog (TpuEff nD τ sig (Elt F) Λ₀ .tc) α) (Q : α → sProp 𝕄) :
    iprop(invs xs K ∗ SendSt c T ∗ xbP c d (XB xs c)) ⊢ iprop((SendSt c T' -∗ run c (k ⟨⟩) Q)
      -∗ run c (.op (.enqueueDma (xbM.slice (Rect.unit (s := S8192x512) o S512x512.size i) (fun _ => rfl))
          (.remote (Dev.tc dv) ((cmM.slice (Rect.unit (s := S16x512x512) o' S1x512x512.size i') (fun _ => rfl)).squeeze S512x512 squeezes_S1x512x512_S512x512)
            (.dma ss)) (.dma rs) hsrc hdst hsem) k) Q) := by
  subst ho ho' hdv hss hrs hT
  unfold SendSt Owe
  iintro ⟨#HI, ⟨⟨%W, HO⟩, HT, HC⟩, Hx⟩ Hk
  ihave HT := (fam_take hd (SendRes (F := F) c)) $$ HT
  unfold SendRes barPay
  icases HT with ⟨⟨Ht, Hr, Ht', ⟨%f, Hf⟩, Hr'⟩, HT⟩
  iapply (Rounds.wp_send_pointsTo 𝒱₀ ER (sched xs) (c : Thread nD τ) none (c' := (dv : Thread nD τ)) (src := xbBlk dv) (dst := cmSl c)
    (sS := .dma (sendSem dv)) (sem := .dma (recvSem c)) (q := fullShare) (fs := XB xs c) (fd := f) (r₁ := 0) (r₂ := 0) (d₁ := c) (d₂ := c)
    (κ₁ := K (sendCell c dv)) (κ₂ := K (recvCell dv c))
    (by rw [duties_send xs c dv hc]; exact Finset.mem_singleton_self _)
    (by rw [duties_recv xs dv c hc.symm]; exact Finset.mem_singleton_self _)
    () () NB rfl (amount_send xs c dv 0 c) (amount_recv xs dv c 0 c) (O₀ := owedR c T) (owedR c (T.erase dv)) (owedR_erase c T dv hd) (W := W)
    (by rw [payload_send])
    (by
      rw [payload_recv]; unfold cmGot
      iintro H
      iexists (cmSl c).view.write (Elt F) f ((xbBlk dv).view.read (Elt F) (XB xs c)) Finset.univ
      isplitr
      · ipureintro; exact View.read_write_univ _ _
      · iexact H)) $$ [Hx Hf HO Ht Hr Ht' Hr']
  · isplitr; · iapply (invs_cell xs K _ (send_mem c dv)); iexact HI
    isplitr; · iapply (invs_cell xs K _ (recv_mem dv c)); iexact HI
    isplitl [Hx]; · iexact Hx
    isplitl [Hf]; · iexact Hf
    isplitl [HO]; · iexact HO
    isplitl [Ht]; · iexact Ht
    isplitl [Hr]; · iexact Hr
    isplitl [Ht'] <;> iassumption
  iintro ⟨Hc, HO⟩
  iapply Hk
  isplitl [HO]; · iexists W; iexact HO
  isplitl [HT]; · iexact HT
  iapply (fam_put (Finset.mem_erase.mpr ⟨hc, Finset.mem_univ dv⟩) hd (fun d => (cred (tallyAt (sendCell c d) () NB) : sProp 𝕄)))
  isplitl [Hc] <;> iassumption

/-! ## The waits for received and for sent blocks, owing nothing -/

/-- Nothing owed. -/
def Free (c : Dev nD) : sProp 𝕄 := iprop(∃ W, owes (c : Thread nD τ) (0 : CellTallies nD τ sig Unit) W)

/-- Device `c` with the blocks of the devices of `T` still to be waited for. -/
def RecvSt (c : Dev nD) (T : Finset (Dev nD)) : sProp 𝕄 :=
  iprop(bigSep T (fun j => iprop(cred (tallyAt (recvCell c j) () NB) ∗ atPos ER (recvCell c j) 0 ∅ 0))
    ∗ bigSep (Finset.univ.erase c \ T) (fun j => iprop(cmGot xs c j ∗ atPos ER (recvCell c j) 1 ∅ 0)))

theorem step_recv (c j : Dev nD) (T T' : Finset (Dev nD)) (hd : j ∈ T) (hc : j ≠ c) (hT : T.erase j = T')
    (sm : DmaSem sig) (hs : sm = recvSem j) {sp : Space} {s' : Shape} {e' : EltTy} (src : Memref sig .tc sp s' e')
    (dst : Memref sig .tc .vmem S512x512 .bf16) {hsrc : src.view.WordExact} {hdst : dst.view.WordExact}
    {α : Type} (k : PUnit → Prog (TpuEff nD τ sig (Elt F) Λ₀ .tc) α) (Q : α → sProp 𝕄) :
    iprop(invs xs K ∗ Free c ∗ RecvSt xs c T)
      ⊢ iprop(((Free c ∗ RecvSt xs c T') -∗ run c (k ⟨⟩) Q)
        -∗ run c (.op (.waitDma2 sm src dst hsrc hdst) k) Q) := by
  subst hs hT
  unfold Free RecvSt
  iintro ⟨#HI, ⟨%W, HO⟩, HT, HD⟩ Hk
  ihave HT := (fam_take hd (fun j => iprop(cred (tallyAt (recvCell c j) () NB) ∗ atPos ER (recvCell c j) 0 ∅ 0))) $$ HT
  icases HT with ⟨⟨Hc, Hat⟩, HT⟩
  iapply (Rounds.wp_wait_rest_token 𝒱₀ ER (sched xs) (c : Thread nD τ) none (κ := K (recvCell c j))
    (wpE_waitDma2_eq (src := src) (dst := dst) 𝒱₀ (c : Thread nD τ) none Set.univ) (Set.mem_univ _) () (O := 0) (W := W) (R := 0) (m := 0) (T := ∅)
    ((Nat.zero_add _).trans (expect_recv xs c j hc).symm)) $$ [HO Hc Hat]
  · isplitr; · iapply (invs_cell xs K _ (recv_mem c j)); iexact HI
    isplitl [Hc]; · iexact Hc
    isplitl [HO]; · iexact HO
    isplitr; · rw [MayWait_zero]; iempintro
    iexact Hat
  iintro ⟨HO, Hat, -, Hp⟩
  ihave Hp := (Entails.of_eq (rest_recv xs c j hc)) $$ Hp
  iapply Hk
  isplitl [HO]; · iexists _; iexact HO
  isplitl [HT]; · iexact HT
  iapply (fam_put (Finset.mem_erase.mpr ⟨hc, Finset.mem_univ j⟩) hd (fun j => iprop(cmGot xs c j ∗ atPos ER (recvCell c j) 1 ∅ 0)))
  isplitr [HD]
  · isplitl [Hp] <;> iassumption
  iexact HD

/-- Device `c` with the blocks to the devices of `T` still to be waited for. -/
def SentSt (c : Dev nD) (T : Finset (Dev nD)) : sProp 𝕄 :=
  iprop(bigSep T (fun d => iprop(cred (tallyAt (sendCell c d) () NB) ∗ atPos ER (sendCell c d) 0 ∅ 0))
    ∗ bigSep (Finset.univ.erase c \ T) (fun d => iprop(xbP c d (XB xs c) ∗ atPos ER (sendCell c d) 1 ∅ 0)))

theorem step_sent (c d : Dev nD) (T T' : Finset (Dev nD)) (hd : d ∈ T) (hc : d ≠ c) (hT : T.erase d = T')
    (sm : DmaSem sig) (hs : sm = sendSem d) {sp : Space} {s' : Shape} {e' : EltTy} (src : Memref sig .tc sp s' e')
    (dst : Memref sig .tc .vmem S512x512 .bf16) {hsrc : src.view.WordExact} {hdst : dst.view.WordExact}
    {α : Type} (k : PUnit → Prog (TpuEff nD τ sig (Elt F) Λ₀ .tc) α) (Q : α → sProp 𝕄) :
    iprop(invs xs K ∗ Free c ∗ SentSt xs c T)
      ⊢ iprop(((Free c ∗ SentSt xs c T') -∗ run c (k ⟨⟩) Q)
        -∗ run c (.op (.waitDma2 sm src dst hsrc hdst) k) Q) := by
  subst hs hT
  unfold Free SentSt
  iintro ⟨#HI, ⟨%W, HO⟩, HT, HD⟩ Hk
  ihave HT := (fam_take hd (fun d => iprop(cred (tallyAt (sendCell c d) () NB) ∗ atPos ER (sendCell c d) 0 ∅ 0))) $$ HT
  icases HT with ⟨⟨Hc, Hat⟩, HT⟩
  iapply (Rounds.wp_wait_rest_token 𝒱₀ ER (sched xs) (c : Thread nD τ) none (κ := K (sendCell c d))
    (wpE_waitDma2_eq (src := src) (dst := dst) 𝒱₀ (c : Thread nD τ) none Set.univ) (Set.mem_univ _) () (O := 0) (W := W) (R := 0) (m := 0) (T := ∅)
    ((Nat.zero_add _).trans (expect_send xs c d hc).symm)) $$ [HO Hc Hat]
  · isplitr; · iapply (invs_cell xs K _ (send_mem c d)); iexact HI
    isplitl [Hc]; · iexact Hc
    isplitl [HO]; · iexact HO
    isplitr; · rw [MayWait_zero]; iempintro
    iexact Hat
  iintro ⟨HO, Hat, -, Hp⟩
  ihave Hp := (Entails.of_eq (rest_send xs c d hc)) $$ Hp
  iapply Hk
  isplitl [HO]; · iexists _; iexact HO
  isplitl [HT]; · iexact HT
  iapply (fam_put (Finset.mem_erase.mpr ⟨hc, Finset.mem_univ d⟩) hd (fun d => iprop(xbP c d (XB xs c) ∗ atPos ER (sendCell c d) 1 ∅ 0)))
  isplitr [HD]
  · isplitl [Hp] <;> iassumption
  iexact HD

end Cert.KernelIdeal.A2A
-- ==== Proof.Forms.lean ====
/-
  The offsets, devices and conditions the kernel computes, in closed form, and the sets of devices that shrink as it
  goes through its peers.
-/
module

public import proofs.«01_k».proof.Proof.Steps

@[expose] public section

set_option maxRecDepth 16384

noncomputable section

namespace Cert.KernelIdeal.A2A

open Idealize.ShloMosaic
open Idealize.ShloMosaic.TcCoe
open Cert.KernelIdeal Cert.KernelIdeal.Gen

/-! ## Sets that shrink -/

/-- The device `t` places on. -/
def nxt (c : Dev nD) (t : ℕ) : Dev nD := ⟨(c.val + t) % 16, Nat.mod_lt _ (by decide)⟩

/-- The devices `n` places on or more, short of a full turn. -/
def ahead (c : Dev nD) (n : ℕ) : Finset (Dev nD) := Finset.univ.filter fun d => d ≠ c ∧ n ≤ (d.val + 16 - c.val) % 16

theorem ahead_one (c : Dev nD) : ahead c 1 = Finset.univ.erase c := by revert c; decide +kernel
theorem ahead_last (c : Dev nD) : ahead c 16 = ∅ := by revert c; decide +kernel
theorem ahead_step (c : Dev nD) (t : Fin 15) :
    nxt c (1 + t.val) ∈ ahead c (1 + t.val) ∧ nxt c (1 + t.val) ≠ c
      ∧ (ahead c (1 + t.val)).erase (nxt c (1 + t.val)) = ahead c (2 + t.val) := by
  revert c t; decide +kernel

/-- Where in the order of sending a device's block comes. -/
def sendPos (c d : Dev nD) : ℕ := (d.val / 4 + 15 - c.val / 4) % 4 * 4 + (d.val % 4 + 4 - c.val % 4) % 4
/-- The devices not yet sent to after `n` places of that order. -/
def left (c : Dev nD) (n : ℕ) : Finset (Dev nD) := Finset.univ.filter fun d => d ≠ c ∧ n ≤ sendPos c d

theorem left_zero (c : Dev nD) : left c 0 = Finset.univ.erase c := by revert c; decide +kernel
theorem left_last (c : Dev nD) : left c 16 = ∅ := by revert c; decide +kernel
theorem left_self (c : Dev nD) : left c 12 = left c 13 := by revert c; decide +kernel
theorem left_step (c : Dev nD) (cs r : Fin 4) (h : 4 * cs.val + r.val ≠ 12) :
    peer c cs r ∈ left c (4 * cs.val + r.val) ∧ peer c cs r ≠ c
      ∧ (left c (4 * cs.val + r.val)).erase (peer c cs r) = left c (4 * cs.val + r.val + 1) := by
  revert c cs r; decide +kernel
theorem peer_self (c : Dev nD) : peer c 3 0 = c := by revert c; decide

/-! ## Conditions on the grid point -/

theorem pt_zero (i : grid0.Coords) : k0_cond1 i = 1#1 ↔ (i 0).val = 0 := by revert i; decide +kernel
theorem pt_last (i : grid0.Coords) : k0_cond19 i = 1#1 ↔ (i 0).val = 15 := by revert i; decide +kernel

/-! ## The sends -/

theorem snd0 : ∀ c : Dev nD, k0_cond2 c = 1#1 ∧ k0_off5 c = ![0, (peer c 0 0).val] ∧ k0_off8 c = ![(peer c 0 0).val * 512, 0]
    ∧ k0_dev16 c = (peer c 0 0).val := by decide +kernel
theorem snd1 : ∀ c : Dev nD, k0_cond3 c = 1#1 ∧ k0_off9 c = ![0, (peer c 0 1).val] ∧ k0_off12 c = ![(peer c 0 1).val * 512, 0]
    ∧ k0_dev17 c = (peer c 0 1).val := by decide +kernel
theorem snd2 : ∀ c : Dev nD, k0_cond4 c = 1#1 ∧ k0_off13 c = ![0, (peer c 0 2).val] ∧ k0_off16 c = ![(peer c 0 2).val * 512, 0]
    ∧ k0_dev18 c = (peer c 0 2).val := by decide +kernel
theorem snd3 : ∀ c : Dev nD, k0_cond5 c = 1#1 ∧ k0_off17 c = ![0, (peer c 0 3).val] ∧ k0_off20 c = ![(peer c 0 3).val * 512, 0]
    ∧ k0_dev19 c = (peer c 0 3).val := by decide +kernel
theorem snd4 : ∀ c : Dev nD, k0_cond6 c = 1#1 ∧ k0_off21 c = ![0, (peer c 1 0).val] ∧ k0_off24 c = ![(peer c 1 0).val * 512, 0]
    ∧ k0_dev20 c = (peer c 1 0).val := by decide +kernel
theorem snd5 : ∀ c : Dev nD, k0_cond7 c = 1#1 ∧ k0_off25 c = ![0, (peer c 1 1).val] ∧ k0_off28 c = ![(peer c 1 1).val * 512, 0]
    ∧ k0_dev21 c = (peer c 1 1).val := by decide +kernel
theorem snd6 : ∀ c : Dev nD, k0_cond8 c = 1#1 ∧ k0_off29 c = ![0, (peer c 1 2).val] ∧ k0_off32 c = ![(peer c 1 2).val * 512, 0]
    ∧ k0_dev22 c = (peer c 1 2).val := by decide +kernel
theorem snd7 : ∀ c : Dev nD, k0_cond9 c = 1#1 ∧ k0_off33 c = ![0, (peer c 1 3).val] ∧ k0_off36 c = ![(peer c 1 3).val * 512, 0]
    ∧ k0_dev23 c = (peer c 1 3).val := by decide +kernel
theorem snd8 : ∀ c : Dev nD, k0_cond10 c = 1#1 ∧ k0_off37 c = ![0, (peer c 2 0).val] ∧ k0_off40 c = ![(peer c 2 0).val * 512, 0]
    ∧ k0_dev24 c = (peer c 2 0).val := by decide +kernel
theorem snd9 : ∀ c : Dev nD, k0_cond11 c = 1#1 ∧ k0_off41 c = ![0, (peer c 2 1).val] ∧ k0_off44 c = ![(peer c 2 1).val * 512, 0]
    ∧ k0_dev25 c = (peer c 2 1).val := by decide +kernel
theorem snd10 : ∀ c : Dev nD, k0_cond12 c = 1#1 ∧ k0_off45 c = ![0, (peer c 2 2).val] ∧ k0_off48 c = ![(peer c 2 2).val * 512, 0]
    ∧ k0_dev26 c = (peer c 2 2).val := by decide +kernel
theorem snd11 : ∀ c : Dev nD, k0_cond13 c = 1#1 ∧ k0_off49 c = ![0, (peer c 2 3).val] ∧ k0_off52 c = ![(peer c 2 3).val * 512, 0]
    ∧ k0_dev27 c = (peer c 2 3).val := by decide +kernel
/-- The turn that would send a device's block to itself is passed over. -/
theorem snd12 : ∀ c : Dev nD, ¬ k0_cond14 c = 1#1 := by decide +kernel
theorem snd13 : ∀ c : Dev nD, k0_cond15 c = 1#1 ∧ k0_off57 c = ![0, (peer c 3 1).val] ∧ k0_off60 c = ![(peer c 3 1).val * 512, 0]
    ∧ k0_dev29 c = (peer c 3 1).val := by decide +kernel
theorem snd14 : ∀ c : Dev nD, k0_cond16 c = 1#1 ∧ k0_off61 c = ![0, (peer c 3 2).val] ∧ k0_off64 c = ![(peer c 3 2).val * 512, 0]
    ∧ k0_dev30 c = (peer c 3 2).val := by decide +kernel
theorem snd15 : ∀ c : Dev nD, k0_cond17 c = 1#1 ∧ k0_off65 c = ![0, (peer c 3 3).val] ∧ k0_off68 c = ![(peer c 3 3).val * 512, 0]
    ∧ k0_dev31 c = (peer c 3 3).val := by decide +kernel

/-! ## The chunks, the own block, the send waits -/

theorem off3_turn : ∀ (c : Dev nD) (cs : Fin 4), k0_off3 c (BitVec.ofNat 32 cs.val) = ![(turn c cs).val * 2048, 0] := by decide +kernel
theorem off4_turn : ∀ (c : Dev nD) (cs : Fin 4), k0_off4 c (BitVec.ofNat 32 cs.val) = ![(turn c cs).val * 2048, 0] := by decide +kernel
theorem off71_own : ∀ c : Dev nD, k0_off71 c = ![c.val * 512, 0] := by decide +kernel
theorem off73_nxt : ∀ (c : Dev nD) (t : Fin 15), k0_off73 c (BitVec.ofNat 32 (1 + t.val)) = ![0, (nxt c (1 + t.val)).val] := by decide +kernel

/-! ## The semaphores sliced out of the arrays of them -/

theorem xsem_eq (s : Fin 2) (o : Fin 1 → ℕ) (i : ∀ a, o a + S1.size a ≤ S2.size a) (ho : o = ![s.val]) :
    ((cc0_scratch3.slice (Rect.unit (s := S2) o S1.size i)).squeeze S_ squeezes_S1_S_).sem = xSem s := by
  subst ho; revert s; decide
theorem sendsem_eq (d : Dev nD) (o : Fin 2 → ℕ) (i : ∀ a, o a + S1x1.size a ≤ S1x16.size a) (ho : o = ![0, d.val]) :
    ((cc0_scratch4.slice (Rect.unit (s := S1x16) o S1x1.size i)).squeeze S_ squeezes_S1x1_S_).sem = sendSem d := by
  subst ho; revert d; decide +kernel
theorem recvsem_eq (d : Dev nD) (o : Fin 2 → ℕ) (i : ∀ a, o a + S1x1.size a ≤ S1x16.size a) (ho : o = ![0, d.val]) :
    ((cc0_scratch5.slice (Rect.unit (s := S1x16) o S1x1.size i)).squeeze S_ squeezes_S1x1_S_).sem = recvSem d := by
  subst ho; revert d; decide +kernel

end Cert.KernelIdeal.A2A
-- ==== Proof.Head.lean ====
/-
  The kernel's first grid point, part by part: the barrier, the cleared accumulator, and the input streamed in four
  chunks, each rounded and sent block by block to the device it is for.
-/
module

public import proofs.«01_k».proof.Proof.Forms

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem run_ret (c : Dev nD) {α : Type} (a : α) (Q : α → sProp 𝕄) : Q a ⊢ run c (Prog.ret a) Q := by
  unfold run; rw [Sem.wp_ret]; exact fupd_intro
theorem run_bind (c : Dev nD) {α β : Type} (p : Prog (TpuEff nD τ sig (Elt F) Λ₀ .tc) α) (k : α → Prog (TpuEff nD τ sig (Elt F) Λ₀ .tc) β)
    (Q : β → sProp 𝕄) : run c p (fun a => run c (k a) Q) ⊢ run c (p >>= k) Q := by
  unfold run; rw [wp_bind]

/-! ## Reading and writing a whole window -/

abbrev fullR : Rect S512x4096 := Rect.unit (s := S512x4096) ![0, 0] S512x4096.size inb_S512x4096_S512x4096_0_0

theorem fullR_emb (x : S512x4096.Idx) : fullR.emb x = x := by
  funext a
  refine Fin.ext ?_
  have h : ∀ b : Fin 2, (![0, 0] : Fin 2 → ℕ) b = 0 := by decide
  rw [Rect.emb_apply]
  show (![0, 0] : Fin 2 → ℕ) a + 1 * (x a).val = (x a).val
  rw [h a]; omega

/-- A window held with contents `X`. -/
abbrev win (c : Dev nD) (m : Memref sig .tc .vmem S512x4096 .f32) (X : Vec F S512x4096 .f32) : sProp 𝕄 :=
  owns (c : Thread nD τ) m fullShare X

theorem read_full (m : Memref sig .tc .vmem S512x4096 .f32) (f : m.view.ty.Contents (Elt F)) :
    (m.access fullR : View sig .tc _ _ _).read (Elt F) f = m.view.read (Elt F) f := by
  funext x
  show m.view.read (Elt F) f (fullR.emb x) = _
  rw [fullR_emb]

theorem step_win_load (c : Dev nD) (m : Memref sig .tc .vmem S512x4096 .f32) (X : Vec F S512x4096 .f32) {hl}
    {α : Type} (k : Vec F S512x4096 .f32 → Prog (TpuEff nD τ sig (Elt F) Λ₀ .tc) α) (Q : α → sProp 𝕄) :
    win c m X ⊢ iprop((win c m X -∗ run c (k X) Q) -∗ run c (.op (.load m fullR.toLoadRect hl) k) Q) := by
  unfold win owns
  iintro ⟨%f, %hf, H⟩ Hk
  iapply (wp_load_rect 𝒱₀ (c : Thread nD τ) none Set.univ (m := m) (r := fullR) (S := m.view.set) (q := fullShare) (f := f)
    (View.set_slice_subset _ _)) $$ H
  iintro H
  rw [read_full, hf]
  iapply Hk
  iexists f
  isplitr
  · ipureintro; exact hf
  iexact H

theorem step_win_store (c : Dev nD) (m : Memref sig .tc .vmem S512x4096 .f32) (X Y : Vec F S512x4096 .f32) {hst hm}
    {α : Type} (k : PUnit → Prog (TpuEff nD τ sig (Elt F) Λ₀ .tc) α) (Q : α → sProp 𝕄) :
    win c m X ⊢ iprop((win c m Y -∗ run c (k ⟨⟩) Q) -∗ run c (.op (.store m fullR Y Finset.univ hst hm) k) Q) := by
  unfold win owns
  iintro ⟨%f, -, H⟩ Hk
  iapply (wp_store 𝒱₀ (c : Thread nD τ) none Set.univ (m := m) (r := fullR) (S := m.view.set) (f := f)
    (by rw [View.setOn_univ]; exact View.set_slice_subset _ _)) $$ H
  iintro H
  iapply Hk
  iexists (m.access fullR : View sig .tc _ _ _).write (Elt F) f Y Finset.univ
  isplitr [H]
  · ipureintro; exact (read_full m _).symm.trans (View.read_write_univ _ _)
  iexact H

/-! ## The steps in the order the kernel takes them -/

variable (xs : Dev nD → main_arg0.ty.Contents (Elt F)) (K : GSem nD τ sig → ℕ)

/-- The signal to the device `n` places on. -/
theorem sig_next (c : Dev nD) (n : ℕ) (h1 : 1 ≤ n) (h2 : n ≤ 15) (dv : Dev nD) (hdv : dv.val = (c.val + n) % 16)
    (sm : Sem sig) (hs : sm = barrier0)
    {α : Type} (k : PUnit → Prog (TpuEff nD τ sig (Elt F) Λ₀ .tc) α) (Q : α → sProp 𝕄) :
    iprop(invs xs K ∗ SigSt c (ahead c n)) ⊢ iprop((SigSt c (ahead c (n + 1)) -∗ run c (k ⟨⟩) Q)
      -∗ run c (.op (.semSignal (dv, .tc) sm (1#32 : BitVec 32).toInt) k) Q) := by
  obtain ⟨t, rfl⟩ : ∃ t : Fin 15, n = 1 + t.val := ⟨⟨n - 1, by omega⟩, by show n = 1 + (n - 1); omega⟩
  have h := ahead_step c t
  rw [show 1 + t.val + 1 = 2 + t.val from by omega]
  exact step_signal xs K c (nxt c (1 + t.val)) _ _ h.1 h.2.1 h.2.2 dv (Fin.ext hdv) sm hs k Q

/-- The sending of block `r` of turn `cs`, in place `n` of the order. -/
theorem send_next (c : Dev nD) (cs r : Fin 4) (n : ℕ) (hn : n = 4 * cs.val + r.val) (hne : n ≠ 12)
    (o : Fin 2 → ℕ) (i : ∀ a, o a + S512x512.size a ≤ S8192x512.size a) (ho : o = ![(peer c cs r).val * 512, 0])
    (o' : Fin 3 → ℕ) (i' : ∀ a, o' a + S1x512x512.size a ≤ S16x512x512.size a) (ho' : o' = ![c.val, 0, 0])
    (o₁ o₂ : Fin 2 → ℕ) (i₁ : ∀ a, o₁ a + S1x1.size a ≤ S1x16.size a) (i₂ : ∀ a, o₂ a + S1x1.size a ≤ S1x16.size a)
    (h₁ : o₁ = ![0, (peer c cs r).val]) (h₂ : o₂ = ![0, c.val])
    (dv : Dev nD) (hdv : dv.val = (peer c cs r).val) {hsrc hdst hsem}
    {α : Type} (k : PUnit → Prog (TpuEff nD τ sig (Elt F) Λ₀ .tc) α) (Q : α → sProp 𝕄) :
    iprop(invs xs K ∗ SendSt c (left c n) ∗ xbP c (peer c cs r) (XB xs c)) ⊢ iprop((SendSt c (left c (n + 1)) -∗ run c (k ⟨⟩) Q)
      -∗ run c (.op (.enqueueDma (xbM.slice (Rect.unit (s := S8192x512) o S512x512.size i) (fun _ => rfl))
          (.remote (Dev.tc dv) ((cmM.slice (Rect.unit (s := S16x512x512) o' S1x512x512.size i') (fun _ => rfl)).squeeze S512x512 squeezes_S1x512x512_S512x512)
            (.dma ((cc0_scratch4.slice (Rect.unit (s := S1x16) o₁ S1x1.size i₁)).squeeze S_ squeezes_S1x1_S_).sem))
          (.dma ((cc0_scratch5.slice (Rect.unit (s := S1x16) o₂ S1x1.size i₂)).squeeze S_ squeezes_S1x1_S_).sem) hsrc hdst hsem) k) Q) := by
  subst hn
  have h := left_step c cs r hne
  exact step_send xs K c (peer c cs r) _ _ h.1 h.2.1 h.2.2 o i ho o' i' ho' dv (Fin.ext hdv) _ _
    (sendsem_eq (peer c cs r) o₁ i₁ h₁) (recvsem_eq c o₂ i₂ h₂) k Q

/-- The blocks of one turn, ready to be sent. -/
abbrev Ready (c : Dev nD) (cs : Fin 4) : sProp 𝕄 := bigSep Finset.univ (fun r : Fin 4 => xbP c (peer c cs r) (XB xs c))

theorem ready_four (c : Dev nD) (cs : Fin 4) : (Ready xs c cs : sProp 𝕄)
    = iprop(xbP c (peer c cs 0) (XB xs c) ∗ xbP c (peer c cs 1) (XB xs c) ∗ xbP c (peer c cs 2) (XB xs c) ∗ xbP c (peer c cs 3) (XB xs c)) := by
  unfold Ready
  rw [bigSep_univ_eq_bigSepL [0, 1, 2, 3] (by decide) (by decide)]
  rfl

section Parts

variable (c : Dev nD) (i : grid0.Coords) (m3 m4 : Memref sig .tc .vmem S512x4096 .f32) (h3 : m3.IsWhole) (h4 : m4.IsWhole)
  (ht : (Memref.whole main_v19 : Memref sig .tc .smem S16 .i32).IsWhole) (hx : xM.IsWhole) (hxf : xfM.IsWhole) (hxb : xbM.IsWhole) (hcm : cmM.IsWhole)
  (v2 v19 v29 : BitVec 32) (h1 : k0_cond1 i = 1#1)

theorem part1_run (Q : Sems sig S_ → sProp 𝕄) :
    iprop(invs xs K ∗ SigSt c (ahead c 1) ∗ (SigSt c (ahead c 6) -∗ Q (SemArray.scalar (sig.barrier 0 rfl))))
      ⊢ run c (k0_part1 (F := F) i (Memref.whole main_v19) ht xM hx m3 h3 m4 h4 xfM hxf xbM hxb cmM hcm cc0_scratch3 cc0_scratch4 cc0_scratch5 c v2 h1) Q := by
  rw [k0_part1_eq_skeleton]; unfold k0_part1_skel
  simp only [semSignalWord, Prog.bind_op, Prog.bind_ret, Prog.pure_eq_ret]
  iintro ⟨#HI, HS, Hk⟩
  iapply (sig_next xs K c 1 (by decide) (by decide) ⟨k0_dev1 c, k0_dev1_lt i c h1⟩ (k0_dev1_eq c) _ rfl) $$ [HS]; · isplitr; iexact HI; iexact HS
  iintro HS
  iapply (sig_next xs K c 2 (by decide) (by decide) ⟨k0_dev2 c, k0_dev2_lt i c h1⟩ (k0_dev2_eq c) _ rfl) $$ [HS]; · isplitr; iexact HI; iexact HS
  iintro HS
  iapply (sig_next xs K c 3 (by decide) (by decide) ⟨k0_dev3 c, k0_dev3_lt i c h1⟩ (k0_dev3_eq c) _ rfl) $$ [HS]; · isplitr; iexact HI; iexact HS
  iintro HS
  iapply (sig_next xs K c 4 (by decide) (by decide) ⟨k0_dev4 c, k0_dev4_lt i c h1⟩ (k0_dev4_eq c) _ rfl) $$ [HS]; · isplitr; iexact HI; iexact HS
  iintro HS
  iapply (sig_next xs K c 5 (by decide) (by decide) ⟨k0_dev5 c, k0_dev5_lt i c h1⟩ (k0_dev5_eq c) _ rfl) $$ [HS]; · isplitr; iexact HI; iexact HS
  iintro HS
  iapply run_ret
  iapply Hk; iexact HS

theorem part2_run (Q : PUnit → sProp 𝕄) :
    iprop(invs xs K ∗ SigSt c (ahead c 6) ∗ (SigSt c (ahead c 12) -∗ Q ⟨⟩))
      ⊢ run c (k0_part2 (F := F) i (Memref.whole main_v19) ht xM hx m3 h3 m4 h4 xfM hxf xbM hxb cmM hcm cc0_scratch3 cc0_scratch4 cc0_scratch5 c v2 h1
          (SemArray.scalar (sig.barrier 0 rfl))) Q := by
  rw [k0_part2_eq_skeleton]; unfold k0_part2_skel
  simp only [semSignalWord, Prog.bind_op, Prog.bind_ret, Prog.pure_eq_ret]
  iintro ⟨#HI, HS, Hk⟩
  iapply (sig_next xs K c 6 (by decide) (by decide) ⟨k0_dev6 c, k0_dev6_lt i c h1⟩ (k0_dev6_eq c) _ rfl) $$ [HS]; · isplitr; iexact HI; iexact HS
  iintro HS
  iapply (sig_next xs K c 7 (by decide) (by decide) ⟨k0_dev7 c, k0_dev7_lt i c h1⟩ (k0_dev7_eq c) _ rfl) $$ [HS]; · isplitr; iexact HI; iexact HS
  iintro HS
  iapply (sig_next xs K c 8 (by decide) (by decide) ⟨k0_dev8 c, k0_dev8_lt i c h1⟩ (k0_dev8_eq c) _ rfl) $$ [HS]; · isplitr; iexact HI; iexact HS
  iintro HS
  iapply (sig_next xs K c 9 (by decide) (by decide) ⟨k0_dev9 c, k0_dev9_lt i c h1⟩ (k0_dev9_eq c) _ rfl) $$ [HS]; · isplitr; iexact HI; iexact HS
  iintro HS
  iapply (sig_next xs K c 10 (by decide) (by decide) ⟨k0_dev10 c, k0_dev10_lt i c h1⟩ (k0_dev10_eq c) _ rfl) $$ [HS]; · isplitr; iexact HI; iexact HS
  iintro HS
  iapply (sig_next xs K c 11 (by decide) (by decide) ⟨k0_dev11 c, k0_dev11_lt i c h1⟩ (k0_dev11_eq c) _ rfl) $$ [HS]; · isplitr; iexact HI; iexact HS
  iintro HS
  iapply run_ret
  iapply Hk; iexact HS

/-- The last signals, the wait, the cleared accumulator, the first chunk on its way. -/
theorem part3_run (X : Vec F S512x4096 .f32) (Q : BitVec 32 → sProp 𝕄) :
    iprop(invs xs K ∗ SigSt c (ahead c 12) ∗ cred (tallyAt (barCell c) () 15) ∗ atPos ER (barCell c) 0 ∅ 0 ∗ win c m4 X
        ∗ xP c (turn c 0) (xs c) ∗ (∃ f, xfP (F := F) c 0 f) ∗ dutyTok ER (xCell c 0) 0 c ∗ reached ER (xCell c 0) 0
        ∗ (∀ v, (Owe c (Finset.univ.erase c) ∗ atPos ER (barCell c) 1 ∅ 0 ∗ bigSep (Finset.univ.erase c) (fun d => barPay (F := F) c d)
            ∗ win c m4 k0_pay3 ∗ cred (tallyAt (xCell c 0) () NX)) -∗ Q v))
      ⊢ run c (k0_part3 (F := F) i (Memref.whole main_v19) ht xM hx m3 h3 m4 h4 xfM hxf xbM hxb cmM hcm cc0_scratch3 cc0_scratch4 cc0_scratch5 c v2 v19 h1
          (SemArray.scalar (sig.barrier 0 rfl))) Q := by
  rw [k0_part3_eq_skeleton]; unfold k0_part3_skel
  simp only [semSignalWord, semWaitWord, Prog.bind_op, Prog.bind_lift, Prog.bind_ret, Prog.pure_eq_ret]
  iintro ⟨#HI, HS, Hc, Hat, Hw, Hx, Hf, Ht, Hr, Hk⟩
  iapply (sig_next xs K c 12 (by decide) (by decide) ⟨k0_dev12 c, k0_dev12_lt i c h1⟩ (k0_dev12_eq c) _ rfl) $$ [HS]; · isplitr; iexact HI; iexact HS
  iintro HS
  iapply (sig_next xs K c 13 (by decide) (by decide) ⟨k0_dev13 c, k0_dev13_lt i c h1⟩ (k0_dev13_eq c) _ rfl) $$ [HS]; · isplitr; iexact HI; iexact HS
  iintro HS
  iapply (sig_next xs K c 14 (by decide) (by decide) ⟨k0_dev14 c, k0_dev14_lt i c h1⟩ (k0_dev14_eq c) _ rfl) $$ [HS]; · isplitr; iexact HI; iexact HS
  iintro HS
  iapply (sig_next xs K c 15 (by decide) (by decide) ⟨k0_dev15 c, k0_dev15_lt i c h1⟩ (k0_dev15_eq c) _ rfl) $$ [HS]; · isplitr; iexact HI; iexact HS
  iintro HS
  rw [ahead_last]
  iapply (step_barrier xs K c _ rfl) $$ [HS Hc Hat]
  · isplitr; · iexact HI
    isplitl [HS]; · iexact HS
    isplitl [Hc] <;> iassumption
  iintro ⟨HO, Hat, Hb⟩
  iapply (step_win_load c m4 X) $$ Hw
  iintro Hw
  iapply (step_win_store c m4 X k0_pay3) $$ Hw
  iintro Hw
  iapply (step_fetch xs K c 0 0 0 (by decide) rfl _ _ (off3_turn c 0) _ _ rfl _ (xsem_eq 0 _ _ rfl)) $$ [Hx Hf Ht Hr]
  · isplitr; · iexact HI
    isplitl [Hx]; · iexact Hx
    isplitl [Hf]; · iexact Hf
    isplitl [Ht] <;> iassumption
  iintro Hc
  iapply run_ret
  iapply Hk
  isplitl [HO]; · iexact HO
  isplitl [Hat]; · iexact Hat
  isplitl [Hb]; · iexact Hb
  isplitl [Hw] <;> iassumption

/-- The second chunk on its way, the first arrived and rounded. -/
theorem part4_run (w : BitVec 32) (Q : (Σ' (_ : BitVec 32) (_ : BitVec 32), BitVec 32) → sProp 𝕄) :
    iprop(invs xs K ∗ Owe c (Finset.univ.erase c)
        ∗ xP c (turn c 1) (xs c) ∗ (∃ f, xfP (F := F) c 1 f) ∗ dutyTok ER (xCell c 1) 0 c ∗ reached ER (xCell c 1) 0
        ∗ cred (tallyAt (xCell c 0) () NX) ∗ atPos ER (xCell c 0) 0 ∅ 0 ∗ (∃ f, xbQ (F := F) c (turn c 0) f)
        ∗ (∀ v, (Owe c (Finset.univ.erase c) ∗ cred (tallyAt (xCell c 1) () NX) ∗ atPos ER (xCell c 0) 1 ∅ 0 ∗ reached ER (xCell c 0) 1
            ∗ xP c (turn c 0) (xs c) ∗ (∃ f, xfP (F := F) c 0 f) ∗ Ready xs c 0) -∗ Q v))
      ⊢ run c (k0_part4 (F := F) i (Memref.whole main_v19) ht xM hx m3 h3 m4 h4 xfM hxf xbM hxb cmM hcm cc0_scratch3 cc0_scratch4 cc0_scratch5 c v2 v19 v29 h1 w) Q := by
  rw [k0_part4_eq_skeleton]; unfold k0_part4_skel
  simp only [Prog.bind_op, Prog.bind_lift, Prog.bind_ret, Prog.pure_eq_ret]
  iintro ⟨#HI, HO, Hx, Hf, Ht, Hr, Hc, Hat, Hb, Hk⟩
  iapply (step_fetch xs K c 1 1 0 (by decide) rfl _ _ (off3_turn c 1) _ _ rfl _ (xsem_eq 1 _ _ rfl)) $$ [Hx Hf Ht Hr]
  · isplitr; · iexact HI
    isplitl [Hx]; · iexact Hx
    isplitl [Hf]; · iexact Hf
    isplitl [Ht] <;> iassumption
  iintro Hc1
  iapply (step_fetched xs K c 0 0 0 (by decide) rfl (Finset.univ.erase c) _ (xsem_eq 0 _ _ rfl)) $$ [HO Hc Hat]
  · isplitr; · iexact HI
    isplitl [HO]; · iexact HO
    isplitl [Hc] <;> iassumption
  iintro ⟨HO, Hat, Hr, Hf, Hx⟩
  iapply (step_round xs c 0 0 _ _ (off4_turn c 0) _ _ rfl k0_pay4 rfl) $$ [Hf Hb]
  · isplitl [Hf] <;> iassumption
  iintro ⟨Hf, Hb⟩
  iapply run_ret
  iapply Hk
  isplitl [HO]; · iexact HO
  isplitl [Hc1]; · iexact Hc1
  isplitl [Hat]; · iexact Hat
  isplitl [Hr]; · iexact Hr
  isplitl [Hx]; · iexact Hx
  isplitl [Hf] <;> iassumption

/-- The blocks of the first turn sent. -/
theorem part5_run (a b d : BitVec 32) (Q : BitVec 32 → sProp 𝕄) :
    iprop(invs xs K ∗ SendSt c (left c 0) ∗ Ready xs c 0 ∗ (∀ v, SendSt c (left c 4) -∗ Q v))
      ⊢ run c (k0_part5 (F := F) i (Memref.whole main_v19) ht xM hx m3 h3 m4 h4 xfM hxf xbM hxb cmM hcm cc0_scratch3 cc0_scratch4 cc0_scratch5 c v2 v19 v29 h1 a b d) Q := by
  rw [k0_part5_eq_skeleton, ready_four]; unfold k0_part5_skel
  rw [dif_pos (snd0 c).1, dif_pos (snd1 c).1, dif_pos (snd2 c).1, dif_pos (snd3 c).1]
  simp only [Prog.bind_op, Prog.bind_lift, Prog.bind_ret, Prog.pure_eq_ret]
  iintro ⟨#HI, HS, ⟨H0, H1, H2, H3⟩, Hk⟩
  iapply (send_next xs K c 0 0 0 rfl (by decide) _ _ (snd0 c).2.2.1 _ _ (k0_off7_eq c) _ _ _ _ (snd0 c).2.1 (k0_off6_eq c)
    ⟨k0_dev16 c, k0_dev16_lt i c h1 (snd0 c).1⟩ (snd0 c).2.2.2) $$ [HS H0]
  · isplitr; · iexact HI
    isplitl [HS] <;> iassumption
  iintro HS
  iapply (send_next xs K c 0 1 1 rfl (by decide) _ _ (snd1 c).2.2.1 _ _ (k0_off11_eq c) _ _ _ _ (snd1 c).2.1 (k0_off10_eq c)
    ⟨k0_dev17 c, k0_dev17_lt i c h1 (snd1 c).1⟩ (snd1 c).2.2.2) $$ [HS H1]
  · isplitr; · iexact HI
    isplitl [HS] <;> iassumption
  iintro HS
  iapply (send_next xs K c 0 2 2 rfl (by decide) _ _ (snd2 c).2.2.1 _ _ (k0_off15_eq c) _ _ _ _ (snd2 c).2.1 (k0_off14_eq c)
    ⟨k0_dev18 c, k0_dev18_lt i c h1 (snd2 c).1⟩ (snd2 c).2.2.2) $$ [HS H2]
  · isplitr; · iexact HI
    isplitl [HS] <;> iassumption
  iintro HS
  iapply (send_next xs K c 0 3 3 rfl (by decide) _ _ (snd3 c).2.2.1 _ _ (k0_off19_eq c) _ _ _ _ (snd3 c).2.1 (k0_off18_eq c)
    ⟨k0_dev19 c, k0_dev19_lt i c h1 (snd3 c).1⟩ (snd3 c).2.2.2) $$ [HS H3]
  · isplitr; · iexact HI
    isplitl [HS] <;> iassumption
  iintro HS
  iapply run_ret
  iapply Hk; iexact HS

end Parts

end Cert.KernelIdeal.A2A
-- ==== Proof.Stream.lean ====
/-
  The rest of the first grid point's streaming: the second, third and fourth chunks arrive, are rounded, and go out.
-/
module

public import proofs.«01_k».proof.Proof.Head

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → main_arg0.ty.Contents (Elt F)) (K : GSem nD τ sig → ℕ)

/-- The wait for a chunk, between sends. -/
theorem fetched_send (c : Dev nD) (cs : Fin 4) (s : Fin 2) (r : ℕ) (hr : r < 2) (hcs : cs.val = 2 * r + s.val) (T : Finset (Dev nD))
    (o : Fin 1 → ℕ) (i : ∀ a, o a + S1.size a ≤ S2.size a) (ho : o = ![s.val]) {sp : Space} {s' : Shape} {e' : EltTy} (src : Memref sig .tc sp s' e')
    (dst : Memref sig .tc .vmem S2048x512 .f32) {hsrc : src.view.WordExact} {hdst : dst.view.WordExact}
    {α : Type} (k : PUnit → Prog (TpuEff nD τ sig (Elt F) Λ₀ .tc) α) (Q : α → sProp 𝕄) :
    iprop(invs xs K ∗ SendSt c T ∗ cred (tallyAt (xCell c s) () NX) ∗ atPos ER (xCell c s) r ∅ 0)
      ⊢ iprop(((SendSt c T ∗ atPos ER (xCell c s) (r + 1) ∅ 0 ∗ reached ER (xCell c s) (r + 1)
            ∗ xfGot xs c s (turn c cs) ∗ xP c (turn c cs) (xs c)) -∗ run c (k ⟨⟩) Q)
        -∗ run c (.op (.waitDma2 ((cc0_scratch3.slice (Rect.unit (s := S2) o S1.size i)).squeeze S_ squeezes_S1_S_).sem src dst hsrc hdst) k) Q) := by
  unfold SendSt
  iintro ⟨#HI, ⟨HO, HT, HC⟩, Hc, Hat⟩ Hk
  iapply (step_fetched xs K c cs s r hr hcs T _ (xsem_eq s o i ho)) $$ [HO Hc Hat]
  · isplitr; · iexact HI
    isplitl [HO]; · iexact HO
    isplitl [Hc] <;> iassumption
  iintro ⟨HO, Hat, Hr, Hf, Hx⟩
  iapply Hk
  isplitr [Hat Hr Hf Hx]
  · isplitl [HO]; · iexact HO
    isplitl [HT] <;> iassumption
  isplitl [Hat]; · iexact Hat
  isplitl [Hr]; · iexact Hr
  isplitl [Hf] <;> iassumption

section Parts

variable (c : Dev nD) (i : grid0.Coords) (m3 m4 : Memref sig .tc .vmem S512x4096 .f32) (h3 : m3.IsWhole) (h4 : m4.IsWhole)
  (ht : (Memref.whole main_v19 : Memref sig .tc .smem S16 .i32).IsWhole) (hx : xM.IsWhole) (hxf : xfM.IsWhole) (hxb : xbM.IsWhole) (hcm : cmM.IsWhole)
  (v2 v19 v29 : BitVec 32) (h1 : k0_cond1 i = 1#1)

/-- The third chunk on its way, the second arrived and rounded, its first two blocks sent. -/
theorem part6_run (w : BitVec 32) (Q : (Σ' (_ : BitVec 32) (_ : BitVec 32), BitVec 32) → sProp 𝕄) :
    iprop(invs xs K ∗ SendSt c (left c 4)
        ∗ xP c (turn c 2) (xs c) ∗ (∃ f, xfP (F := F) c 0 f) ∗ dutyTok ER (xCell c 0) 1 c ∗ reached ER (xCell c 0) 1
        ∗ cred (tallyAt (xCell c 1) () NX) ∗ atPos ER (xCell c 1) 0 ∅ 0 ∗ (∃ f, xbQ (F := F) c (turn c 1) f)
        ∗ (∀ v, (SendSt c (left c 6) ∗ cred (tallyAt (xCell c 0) () NX) ∗ atPos ER (xCell c 1) 1 ∅ 0 ∗ reached ER (xCell c 1) 1
            ∗ xP c (turn c 1) (xs c) ∗ (∃ f, xfP (F := F) c 1 f) ∗ xbP c (peer c 1 2) (XB xs c) ∗ xbP c (peer c 1 3) (XB xs c)) -∗ Q v))
      ⊢ run c (k0_part6 (F := F) i (Memref.whole main_v19) ht xM hx m3 h3 m4 h4 xfM hxf xbM hxb cmM hcm cc0_scratch3 cc0_scratch4 cc0_scratch5 c v2 v29 h1 w) Q := by
  rw [k0_part6_eq_skeleton]; unfold k0_part6_skel
  simp only [dif_pos (snd4 c).1, dif_pos (snd5 c).1, Prog.bind_op, Prog.bind_lift, Prog.bind_ret, Prog.pure_eq_ret]
  iintro ⟨#HI, HS, Hx, Hf, Ht, Hr, Hc, Hat, Hb, Hk⟩
  iapply (step_fetch xs K c 2 0 1 (by decide) rfl _ _ (off3_turn c 2) _ _ rfl _ (xsem_eq 0 _ _ rfl)) $$ [Hx Hf Ht Hr]
  · isplitr; · iexact HI
    isplitl [Hx]; · iexact Hx
    isplitl [Hf]; · iexact Hf
    isplitl [Ht] <;> iassumption
  iintro Hc1
  iapply (fetched_send xs K c 1 1 0 (by decide) rfl (left c 4) _ _ rfl) $$ [HS Hc Hat]
  · isplitr; · iexact HI
    isplitl [HS]; · iexact HS
    isplitl [Hc] <;> iassumption
  iintro ⟨HS, Hat, Hr, Hf, Hx⟩
  iapply (step_round xs c 1 1 _ _ (off4_turn c 1) _ _ rfl k0_pay5 rfl) $$ [Hf Hb]
  · isplitl [Hf] <;> iassumption
  iintro ⟨Hf, Hb⟩
  ihave Hb := (Entails.of_eq (ready_four xs c 1)) $$ Hb
  icases Hb with ⟨H0, H1, H2, H3⟩
  iapply (send_next xs K c 1 0 4 rfl (by decide) _ _ (snd4 c).2.2.1 _ _ (k0_off23_eq c) _ _ _ _ (snd4 c).2.1 (k0_off22_eq c)
    ⟨k0_dev20 c, k0_dev20_lt i c h1 (snd4 c).1⟩ (snd4 c).2.2.2) $$ [HS H0]
  · isplitr; · iexact HI
    isplitl [HS] <;> iassumption
  iintro HS
  iapply (send_next xs K c 1 1 5 rfl (by decide) _ _ (snd5 c).2.2.1 _ _ (k0_off27_eq c) _ _ _ _ (snd5 c).2.1 (k0_off26_eq c)
    ⟨k0_dev21 c, k0_dev21_lt i c h1 (snd5 c).1⟩ (snd5 c).2.2.2) $$ [HS H1]
  · isplitr; · iexact HI
    isplitl [HS] <;> iassumption
  iintro HS
  iapply run_ret
  iapply Hk
  isplitl [HS]; · iexact HS
  isplitl [Hc1]; · iexact Hc1
  isplitl [Hat]; · iexact Hat
  isplitl [Hr]; · iexact Hr
  isplitl [Hx]; · iexact Hx
  isplitl [Hf]; · iexact Hf
  isplitl [H2] <;> iassumption

/-- The other two blocks of the second chunk sent, the fourth chunk on its way, the third arrived. -/
theorem part7_run (a b d e : BitVec 32) (Q : BitVec 32 → sProp 𝕄) :
    iprop(invs xs K ∗ SendSt c (left c 6) ∗ xbP c (peer c 1 2) (XB xs c) ∗ xbP c (peer c 1 3) (XB xs c)
        ∗ xP c (turn c 3) (xs c) ∗ (∃ f, xfP (F := F) c 1 f) ∗ dutyTok ER (xCell c 1) 1 c ∗ reached ER (xCell c 1) 1
        ∗ cred (tallyAt (xCell c 0) () NX) ∗ atPos ER (xCell c 0) 1 ∅ 0
        ∗ (∀ v, (SendSt c (left c 8) ∗ cred (tallyAt (xCell c 1) () NX) ∗ atPos ER (xCell c 0) 2 ∅ 0
            ∗ xP c (turn c 2) (xs c) ∗ xfGot xs c 0 (turn c 2)) -∗ Q v))
      ⊢ run c (k0_part7 (F := F) i (Memref.whole main_v19) ht xM hx m3 h3 m4 h4 xfM hxf xbM hxb cmM hcm cc0_scratch3 cc0_scratch4 cc0_scratch5 c v2 v19 v29 h1 a b d e) Q := by
  rw [k0_part7_eq_skeleton]; unfold k0_part7_skel
  simp only [dif_pos (snd6 c).1, dif_pos (snd7 c).1, Prog.bind_op, Prog.bind_lift, Prog.bind_ret, Prog.pure_eq_ret]
  iintro ⟨#HI, HS, H2, H3, Hx, Hf, Ht, Hr, Hc, Hat, Hk⟩
  iapply (send_next xs K c 1 2 6 rfl (by decide) _ _ (snd6 c).2.2.1 _ _ (k0_off31_eq c) _ _ _ _ (snd6 c).2.1 (k0_off30_eq c)
    ⟨k0_dev22 c, k0_dev22_lt i c h1 (snd6 c).1⟩ (snd6 c).2.2.2) $$ [HS H2]
  · isplitr; · iexact HI
    isplitl [HS] <;> iassumption
  iintro HS
  iapply (send_next xs K c 1 3 7 rfl (by decide) _ _ (snd7 c).2.2.1 _ _ (k0_off35_eq c) _ _ _ _ (snd7 c).2.1 (k0_off34_eq c)
    ⟨k0_dev23 c, k0_dev23_lt i c h1 (snd7 c).1⟩ (snd7 c).2.2.2) $$ [HS H3]
  · isplitr; · iexact HI
    isplitl [HS] <;> iassumption
  iintro HS
  iapply (step_fetch xs K c 3 1 1 (by decide) rfl _ _ (off3_turn c 3) _ _ rfl _ (xsem_eq 1 _ _ rfl)) $$ [Hx Hf Ht Hr]
  · isplitr; · iexact HI
    isplitl [Hx]; · iexact Hx
    isplitl [Hf]; · iexact Hf
    isplitl [Ht] <;> iassumption
  iintro Hc1
  iapply (fetched_send xs K c 2 0 1 (by decide) rfl (left c 8) _ _ rfl) $$ [HS Hc Hat]
  · isplitr; · iexact HI
    isplitl [HS]; · iexact HS
    isplitl [Hc] <;> iassumption
  iintro ⟨HS, Hat, -, Hf, Hx⟩
  iapply run_ret
  iapply Hk
  isplitl [HS]; · iexact HS
  isplitl [Hc1]; · iexact Hc1
  isplitl [Hat]; · iexact Hat
  isplitl [Hx] <;> iassumption

/-- The third chunk rounded and sent. -/
theorem part8_run (a : BitVec 32) (Q : BitVec 32 → sProp 𝕄) :
    iprop(invs xs K ∗ SendSt c (left c 8) ∗ xfGot xs c 0 (turn c 2) ∗ (∃ f, xbQ (F := F) c (turn c 2) f)
        ∗ (∀ v, (SendSt c (left c 12) ∗ (∃ f, xfP (F := F) c 0 f)) -∗ Q v))
      ⊢ run c (k0_part8 (F := F) i (Memref.whole main_v19) ht xM hx m3 h3 m4 h4 xfM hxf xbM hxb cmM hcm cc0_scratch3 cc0_scratch4 cc0_scratch5 c v2 v29 h1 a) Q := by
  rw [k0_part8_eq_skeleton]; unfold k0_part8_skel
  simp only [dif_pos (snd8 c).1, dif_pos (snd9 c).1, dif_pos (snd10 c).1, dif_pos (snd11 c).1, Prog.bind_op, Prog.bind_lift, Prog.bind_ret, Prog.pure_eq_ret]
  iintro ⟨#HI, HS, Hf, Hb, Hk⟩
  iapply (step_round xs c 2 0 _ _ (off4_turn c 2) _ _ rfl k0_pay6 rfl) $$ [Hf Hb]
  · isplitl [Hf] <;> iassumption
  iintro ⟨Hf, Hb⟩
  ihave Hb := (Entails.of_eq (ready_four xs c 2)) $$ Hb
  icases Hb with ⟨H0, H1, H2, H3⟩
  iapply (send_next xs K c 2 0 8 rfl (by decide) _ _ (snd8 c).2.2.1 _ _ (k0_off39_eq c) _ _ _ _ (snd8 c).2.1 (k0_off38_eq c)
    ⟨k0_dev24 c, k0_dev24_lt i c h1 (snd8 c).1⟩ (snd8 c).2.2.2) $$ [HS H0]
  · isplitr; · iexact HI
    isplitl [HS] <;> iassumption
  iintro HS
  iapply (send_next xs K c 2 1 9 rfl (by decide) _ _ (snd9 c).2.2.1 _ _ (k0_off43_eq c) _ _ _ _ (snd9 c).2.1 (k0_off42_eq c)
    ⟨k0_dev25 c, k0_dev25_lt i c h1 (snd9 c).1⟩ (snd9 c).2.2.2) $$ [HS H1]
  · isplitr; · iexact HI
    isplitl [HS] <;> iassumption
  iintro HS
  iapply (send_next xs K c 2 2 10 rfl (by decide) _ _ (snd10 c).2.2.1 _ _ (k0_off47_eq c) _ _ _ _ (snd10 c).2.1 (k0_off46_eq c)
    ⟨k0_dev26 c, k0_dev26_lt i c h1 (snd10 c).1⟩ (snd10 c).2.2.2) $$ [HS H2]
  · isplitr; · iexact HI
    isplitl [HS] <;> iassumption
  iintro HS
  iapply (send_next xs K c 2 3 11 rfl (by decide) _ _ (snd11 c).2.2.1 _ _ (k0_off51_eq c) _ _ _ _ (snd11 c).2.1 (k0_off50_eq c)
    ⟨k0_dev27 c, k0_dev27_lt i c h1 (snd11 c).1⟩ (snd11 c).2.2.2) $$ [HS H3]
  · isplitr; · iexact HI
    isplitl [HS] <;> iassumption
  iintro HS
  iapply run_ret
  iapply Hk
  isplitl [HS] <;> iassumption

/-- The fourth chunk arrived and rounded; a device keeps the block that is its own and sends the next. -/
theorem part9_run (a : BitVec 32) (Q : (Σ' (_ : BitVec 32) (_ : BitVec 32), BitVec 32) → sProp 𝕄) :
    iprop(invs xs K ∗ SendSt c (left c 12)
        ∗ cred (tallyAt (xCell c 1) () NX) ∗ atPos ER (xCell c 1) 1 ∅ 0 ∗ (∃ f, xbQ (F := F) c (turn c 3) f)
        ∗ (∀ v, (SendSt c (left c 14) ∗ atPos ER (xCell c 1) 2 ∅ 0
            ∗ xP c (turn c 3) (xs c) ∗ (∃ f, xfP (F := F) c 1 f) ∗ xbP c c (XB xs c) ∗ xbP c (peer c 3 2) (XB xs c) ∗ xbP c (peer c 3 3) (XB xs c)) -∗ Q v))
      ⊢ run c (k0_part9 (F := F) i (Memref.whole main_v19) ht xM hx m3 h3 m4 h4 xfM hxf xbM hxb cmM hcm cc0_scratch3 cc0_scratch4 cc0_scratch5 c v2 v19 v29 h1 a) Q := by
  rw [k0_part9_eq_skeleton]; unfold k0_part9_skel
  simp only [dif_neg (snd12 c), dif_pos (snd13 c).1, Prog.bind_op, Prog.bind_lift, Prog.bind_ret, Prog.pure_eq_ret]
  iintro ⟨#HI, HS, Hc, Hat, Hb, Hk⟩
  iapply (fetched_send xs K c 3 1 1 (by decide) rfl (left c 12) _ _ rfl) $$ [HS Hc Hat]
  · isplitr; · iexact HI
    isplitl [HS]; · iexact HS
    isplitl [Hc] <;> iassumption
  iintro ⟨HS, Hat, -, Hf, Hx⟩
  iapply (step_round xs c 3 1 _ _ (off4_turn c 3) _ _ rfl k0_pay7 rfl) $$ [Hf Hb]
  · isplitl [Hf] <;> iassumption
  iintro ⟨Hf, Hb⟩
  ihave Hb := (Entails.of_eq (ready_four xs c 3)) $$ Hb
  icases Hb with ⟨H0, H1, H2, H3⟩
  rw [left_self, peer_self]
  iapply (send_next xs K c 3 1 13 rfl (by decide) _ _ (snd13 c).2.2.1 _ _ (k0_off59_eq c) _ _ _ _ (snd13 c).2.1 (k0_off58_eq c)
    ⟨k0_dev29 c, k0_dev29_lt i c h1 (snd13 c).1⟩ (snd13 c).2.2.2) $$ [HS H1]
  · isplitr; · iexact HI
    isplitl [HS] <;> iassumption
  iintro HS
  iapply run_ret
  iapply Hk
  isplitl [HS]; · iexact HS
  isplitl [Hat]; · iexact Hat
  isplitl [Hx]; · iexact Hx
  isplitl [Hf]; · iexact Hf
  isplitl [H0]; · iexact H0
  isplitl [H2] <;> iassumption

end Parts

end Cert.KernelIdeal.A2A
-- ==== Proof.Order.lean ====
/-
  The order in which a device takes the blocks it receives: the closed form of the table the host computes, what remains
  to be received after so many grid points, and the offsets the kernel computes from an entry of the table.
-/
module

public import proofs.«01_k».proof.Proof.Stream

@[expose] public section

set_option maxRecDepth 16384

noncomputable section

namespace Cert.KernelIdeal.A2A

open Idealize.ShloMosaic
open Idealize.ShloMosaic.TcCoe
open Cert.KernelIdeal Cert.KernelIdeal.Gen

/-- The device whose block device `c` takes at grid point `k`: back through the planes, and within one back through its places. -/
def ord (c : Dev nD) (k : ℕ) : Dev nD :=
  ⟨(c.val / 4 + 7 - k / 4) % 4 * 4 + (c.val % 4 + 4 - k % 4) % 4, by show _ < 16; omega⟩

/-- At which grid point device `c` takes the block of `j`. -/
def recvPos (c j : Dev nD) : ℕ := (c.val / 4 + 7 - j.val / 4) % 4 * 4 + (c.val % 4 + 4 - j.val % 4) % 4
/-- The devices whose blocks are not taken before grid point `n`. -/
def rleft (c : Dev nD) (n : ℕ) : Finset (Dev nD) := Finset.univ.filter fun j => j ≠ c ∧ n ≤ recvPos c j

theorem rleft_zero (c : Dev nD) : rleft c 0 = Finset.univ.erase c := by revert c; decide +kernel
theorem rleft_last (c : Dev nD) : rleft c 16 = ∅ := by revert c; decide +kernel
theorem rleft_step (c : Dev nD) (k : Fin 16) (h : ord c k.val ≠ c) :
    ord c k.val ∈ rleft c k.val ∧ (rleft c k.val).erase (ord c k.val) = rleft c (k.val + 1) := by
  revert c k; decide +kernel
theorem rleft_self (c : Dev nD) (k : Fin 16) (h : ord c k.val = c) : rleft c k.val = rleft c (k.val + 1) := by
  revert c k; decide +kernel
theorem ord_taken (c : Dev nD) (k : Fin 16) (h : ord c k.val ≠ c) : ord c k.val ∈ Finset.univ.erase c \ rleft c (k.val + 1) := by
  revert c k; decide +kernel
theorem ord_bij (c : Dev nD) : Function.Bijective fun k : Fin 16 => ord c k.val := by revert c; decide +kernel

/-! ## Words -/

/-- A device's number as the kernel computes it. -/
abbrev meW (c : Dev nD) : BitVec 32 := Scalar.remsi (Scalar.divsi (Dev.word c) 1#32) 16#32
/-- An entry of the table. -/
abbrev tok (j : Dev nD) : BitVec 32 := BitVec.ofNat 32 j.val

theorem tok_eq_me (c j : Dev nD) : Scalar.cmpi .eq (tok j) (meW c) = 1#1 ↔ j = c := by revert c j; decide +kernel
theorem cond18_tok (c j : Dev nD) : k0_cond18 c (tok j) = 1#1 ↔ j ≠ c := by revert c j; decide +kernel
theorem chk_tok (c j : Dev nD) : k0_chk1 c (tok j) := by revert c j; decide +kernel
theorem off69_tok (j : Dev nD) : k0_off69 (tok j) = ![0, j.val] := by revert j; decide +kernel
theorem off72_tok (j : Dev nD) : k0_off72 (tok j) = ![j.val, 0, 0] := by revert j; decide +kernel
theorem off2_pt (i : grid0.Coords) (x : (Rect.unit (s := S16) (k0_off2 i) S1.size (k0_off2_inb i)).shape.Idx) :
    ((Rect.unit (s := S16) (k0_off2 i) S1.size (k0_off2_inb i)).emb x 0).val = (i 0).val := by
  have hx : (x 0).val < 1 := (x 0).isLt
  have h : k0_off2 i 0 = (i 0).val := by rw [k0_off2_eq]; rfl
  rw [Rect.emb_apply]
  show k0_off2 i 0 + 1 * (x 0).val = _
  omega
theorem last_word (i : grid0.Coords) :
    Scalar.cmpi .ne (Scalar.extui (Scalar.cmpi .eq (BitVec.ofNat 32 (i 0).val) 15#32) : BitVec 32) 0#32 = 1#1 ↔ (i 0).val = 15 := by
  revert i; decide +kernel

end Cert.KernelIdeal.A2A
-- ==== Proof.Between.lean ====
/-
  What a device holds between grid points, and the head of the body at every grid point but the first: the reading of the
  table.
-/
module

public import proofs.«01_k».proof.Proof.Order

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → main_arg0.ty.Contents (Elt F)) (K : GSem nD τ sig → ℕ)

/-! ## The table -/

/-- The order of device `c`, as the table holds it. -/
def tabOf (F : FTy → Type) (c : Dev nD) : main_v19.ty.Contents (Elt F) := fun ix => (tok (ord c (ix 0).val) : BitVec 32)
abbrev tabM : Memref sig .tc .smem S16 .i32 := Memref.whole main_v19
abbrev Tab (c : Dev nD) : sProp 𝕄 := tabM.view.loc (c : Thread nD τ) ↦{fullShare} tabOf F c

theorem tab_read (c : Dev nD) (i : grid0.Coords) (x : (Rect.unit (s := S16) (k0_off2 i) S1.size (k0_off2_inb i)).shape.Idx) :
    (tabM.access (Rect.unit (s := S16) (k0_off2 i) S1.size (k0_off2_inb i))).read (Elt F) (tabOf F c) x = tok (ord c (i 0).val) := by
  show tabOf F c ((Rect.unit (s := S16) (k0_off2 i) S1.size (k0_off2_inb i)).emb x) = _
  unfold tabOf
  rw [off2_pt]

/-! ## What a device holds between grid points -/

/-- Its own slice of the landing buffer, of no use, and the two cells for blocks to itself, never used. -/
def Keep (c : Dev nD) : sProp 𝕄 := iprop(atPos ER (sendCell c c) 0 ∅ 0 ∗ atPos ER (recvCell c c) 0 ∅ 0)

/-- What the sending to one device takes, but what that device's signal brings. -/
abbrev SendTok (c d : Dev nD) : sProp 𝕄 :=
  iprop(dutyTok ER (sendCell c d) 0 c ∗ reached ER (sendCell c d) 0 ∗ dutyTok ER (recvCell d c) 0 c)

/-- A slot of the streaming buffer with its cell, before and after the streaming. -/
abbrev SlotIn (c : Dev nD) (s : Fin 2) : sProp 𝕄 :=
  iprop((∃ f, xfP (F := F) c s f) ∗ dutyTok ER (xCell c s) 0 c ∗ dutyTok ER (xCell c s) 1 c ∗ reached ER (xCell c s) 0 ∗ atPos ER (xCell c s) 0 ∅ 0)
abbrev SlotOut (c : Dev nD) (s : Fin 2) : sProp 𝕄 := iprop((∃ f, xfP (F := F) c s f) ∗ atPos ER (xCell c s) 2 ∅ 0)

/-- Before the first grid point. -/
def Start (c : Dev nD) : sProp 𝕄 :=
  iprop(SigSt c (ahead c 1) ∗ cred (tallyAt (barCell c) () 15) ∗ atPos ER (barCell c) 0 ∅ 0
    ∗ (bigSep (Finset.univ.erase c) fun d => SendTok (F := F) c d)
    ∗ (bigSep Finset.univ fun q : Fin 4 => xP c q (xs c))
    ∗ (bigSep Finset.univ fun s : Fin 2 => SlotIn (F := F) c s)
    ∗ (bigSep Finset.univ fun q : Fin 4 => iprop(∃ f, xbQ (F := F) c q f))
    ∗ RecvSt xs c (rleft c 0) ∗ (∃ f, cmP (F := F) c c f)
    ∗ (bigSep (Finset.univ.erase c) fun d => atPos ER (sendCell c d) 0 ∅ 0)
    ∗ Keep (F := F) c)

/-- What is left alone after the first grid point. -/
def Rest (c : Dev nD) : sProp 𝕄 :=
  iprop((bigSep Finset.univ fun q : Fin 4 => xP c q (xs c)) ∗ (bigSep Finset.univ fun s : Fin 2 => SlotOut (F := F) c s)
    ∗ atPos ER (barCell c) 1 ∅ 0 ∗ Keep (F := F) c)

/-- With `n` blocks taken and the devices of `T` still to be waited for as receivers. -/
def Mid (c : Dev nD) (n : ℕ) (T : Finset (Dev nD)) : sProp 𝕄 :=
  iprop(Free c ∗ RecvSt xs c (rleft c n) ∗ SentSt xs c T ∗ (∃ f, cmP (F := F) c c f) ∗ xbP c c (XB xs c) ∗ Rest xs c)

/-! ## Families over the chunks, in the order of the turns -/

theorem by_turn (c : Dev nD) (Φ : Fin 4 → sProp 𝕄) :
    bigSep Finset.univ Φ = iprop(Φ (turn c 0) ∗ Φ (turn c 1) ∗ Φ (turn c 2) ∗ Φ (turn c 3)) := by
  rw [bigSep_univ_eq_bigSepL [turn c 0, turn c 1, turn c 2, turn c 3] (by revert c; decide) (by revert c; decide)]
  rfl

theorem send_start (c : Dev nD) :
    iprop(Owe (F := F) c (Finset.univ.erase c) ∗ (bigSep (Finset.univ.erase c) fun d => SendTok (F := F) c d)
        ∗ bigSep (Finset.univ.erase c) fun d => barPay (F := F) c d)
      ⊢ SendSt (F := F) c (left c 0) := by
  rw [left_zero]
  unfold SendSt
  iintro ⟨HO, HT, HB⟩
  isplitl [HO]; · iexact HO
  isplitl [HT HB]
  · have hm : iprop((bigSep (Finset.univ.erase c) fun d => SendTok (F := F) c d) ∗ bigSep (Finset.univ.erase c) fun d => barPay (F := F) c d)
        ⊢ bigSep (Finset.univ.erase c) fun d => SendRes (F := F) c d := by
      refine (Entails.of_eq (bigSep_sep' _ _ _).symm).trans (bigSep_mono fun d _ => ?_)
      unfold SendRes
      show iprop(SendTok (F := F) c d ∗ barPay (F := F) c d) ⊢ iprop(dutyTok ER (sendCell c d) 0 c ∗ reached ER (sendCell c d) 0
        ∗ dutyTok ER (recvCell d c) 0 c ∗ barPay (F := F) c d)
      iintro ⟨⟨H1, H2, H3⟩, H4⟩
      isplitl [H1]; · iexact H1
      isplitl [H2]; · iexact H2
      isplitl [H3] <;> iassumption
    iapply hm
    isplitl [HT] <;> iassumption
  · rw [Finset.sdiff_self]
    iapply (Entails.of_eq bigSep_empty.symm)
    iempintro

theorem send_done (c : Dev nD) :
    iprop(SendSt (F := F) c (left c 16) ∗ bigSep (Finset.univ.erase c) fun d => (atPos ER (sendCell c d) 0 ∅ 0 : sProp 𝕄))
      ⊢ iprop(Free (F := F) c ∗ SentSt xs c (ahead c 1)) := by
  rw [left_last, ahead_one]
  unfold SendSt SentSt Owe Free
  rw [owedR_empty, Finset.sdiff_empty, Finset.sdiff_self, bigSep_sep']
  iintro ⟨⟨HO, -, HC⟩, HA⟩
  isplitl [HO]; · iexact HO
  isplitr []
  · isplitl [HC] <;> iassumption
  · iapply (Entails.of_eq bigSep_empty.symm)
    iempintro

section Parts

variable (c : Dev nD) (i : grid0.Coords) (m3 m4 : Memref sig .tc .vmem S512x4096 .f32) (h3 : m3.IsWhole) (h4 : m4.IsWhole)
  (ht : (Memref.whole main_v19 : Memref sig .tc .smem S16 .i32).IsWhole) (hx : xM.IsWhole) (hxf : xfM.IsWhole) (hxb : xbM.IsWhole) (hcm : cmM.IsWhole)

/-- What the head of the body returns. -/
abbrev HeadR : Type := Σ' (_ : BitVec 32) (d0 : Dev nD) (_ : BitVec 32) (v31 : Elt F .i32) (_ : k0_chk1 d0 v31), BitVec 32
abbrev headV (c : Dev nD) (i : grid0.Coords) (v : BitVec 32) : HeadR (F := F) :=
  ⟨BitVec.ofNat 32 (i 0).val, c, meW c, tok (ord c (i 0).val), chk_tok c (ord c (i 0).val), v⟩

/-- The reading of the table. -/
theorem step_tab {hl} {α : Type} (k : ((Rect.unit (s := S16) (k0_off2 i) S1.size (k0_off2_inb i)).shape.Idx → Elt F .i32) → Prog (TpuEff nD τ sig (Elt F) Λ₀ .tc) α) (Q : α → sProp 𝕄) :
    Tab (F := F) c ⊢ iprop((Tab (F := F) c -∗ run c (k fun _ => (tok (ord c (i 0).val) : BitVec 32)) Q)
      -∗ run c (.op (.load tabM (Rect.unit (s := S16) (k0_off2 i) S1.size (k0_off2_inb i)).toLoadRect hl) k) Q) := by
  iintro H Hk
  iapply (wp_load_rect 𝒱₀ (c : Thread nD τ) none Set.univ (m := tabM) (r := Rect.unit (s := S16) (k0_off2 i) S1.size (k0_off2_inb i))
    (S := Finset.univ) (q := fullShare) (f := tabOf F c) (Finset.subset_univ _)) $$ H
  iintro H
  rw [show (tabM.access (Rect.unit (s := S16) (k0_off2 i) S1.size (k0_off2_inb i))).read (Elt F) (tabOf F c)
    = fun _ => (tok (ord c (i 0).val) : BitVec 32) from funext (tab_read c i)]
  iapply Hk
  iexact H

/-- A grid point but the first: the head reads the table. -/
theorem head_pos (h0 : (i 0).val ≠ 0) (Q : HeadR (F := F) → sProp 𝕄) :
    iprop(Tab (F := F) c ∗ (∀ v, Tab (F := F) c -∗ Q (headV c i v)))
      ⊢ run c (k0_part15 (F := F) i (Memref.whole main_v19) ht xM hx m3 h3 m4 h4 xfM hxf xbM hxb cmM hcm cc0_scratch3 cc0_scratch4 cc0_scratch5) Q := by
  have hn : ¬ k0_cond1 i = 1#1 := fun h => h0 ((pt_zero i).mp h)
  rw [k0_part15_eq_skeleton]; unfold k0_part15_skel
  simp only [dif_neg hn, smemLoad, smemLoadElt, Prog.bind_op, Prog.bind_lift, Prog.bind_ret, Prog.pure_eq_ret, wp_deviceId]
  iintro ⟨HT, Hk⟩
  iapply (step_tab c i) $$ HT
  iintro HT
  iapply (wp_assume 𝒱₀ (c : Thread nD τ) none Set.univ (chk_tok c (ord c (i 0).val)))
  iapply run_ret
  iapply Hk
  iexact HT

end Parts

end Cert.KernelIdeal.A2A
-- ==== Proof.First.lean ====
/-
  The head of the body at the first grid point: the barrier, the streaming and the sending, put together from their parts.
-/
module

public import proofs.«01_k».proof.Proof.Between

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → main_arg0.ty.Contents (Elt F)) (K : GSem nD τ sig → ℕ)

section Parts

variable (c : Dev nD) (i : grid0.Coords) (m3 m4 : Memref sig .tc .vmem S512x4096 .f32) (h3 : m3.IsWhole) (h4 : m4.IsWhole)
  (ht : (Memref.whole main_v19 : Memref sig .tc .smem S16 .i32).IsWhole) (hx : xM.IsWhole) (hxf : xfM.IsWhole) (hxb : xbM.IsWhole) (hcm : cmM.IsWhole)

theorem by_slot (Φ : Fin 2 → sProp 𝕄) : bigSep Finset.univ Φ = iprop(Φ 0 ∗ Φ 1) := by
  rw [bigSep_univ_eq_bigSepL [0, 1] (by decide) (by decide)]
  rfl

theorem head_zero (h0 : (i 0).val = 0) (X : Vec F S512x4096 .f32) (Q : HeadR (F := F) → sProp 𝕄) :
    iprop(invs xs K ∗ Tab (F := F) c ∗ Start xs c ∗ win c m4 X
        ∗ (∀ v, (Tab (F := F) c ∗ Mid xs c 0 (ahead c 1) ∗ win c m4 k0_pay3) -∗ Q (headV c i v)))
      ⊢ run c (k0_part15 (F := F) i (Memref.whole main_v19) ht xM hx m3 h3 m4 h4 xfM hxf xbM hxb cmM hcm cc0_scratch3 cc0_scratch4 cc0_scratch5) Q := by
  have hp : k0_cond1 i = 1#1 := (pt_zero i).mpr h0
  rw [k0_part15_eq_skeleton]; unfold k0_part15_skel Start
  rw [by_turn c (fun q => xP c q (xs c)), by_slot, by_turn c (fun q => iprop(∃ f, xbQ (F := F) c q f))]
  simp only [dif_pos hp, dif_pos (snd14 c).1, dif_pos (snd15 c).1, smemLoad, smemLoadElt, Prog.bind_op, Prog.bind_lift, Prog.bind_ret, Prog.pure_eq_ret, wp_deviceId]
  iintro ⟨#HI, HT, ⟨HS, Hcb, Hab, HST, ⟨Hx0, Hx1, Hx2, Hx3⟩, ⟨⟨Hf0, Ht00, Ht01, #Hr00, Ha0⟩, ⟨Hf1, Ht10, Ht11, #Hr10, Ha1⟩⟩, ⟨Hb0, Hb1, Hb2, Hb3⟩, HR, Hcm, HA, HK⟩, Hw, Hk⟩
  iapply (step_tab c i) $$ HT
  iintro HT
  iapply (wp_assume 𝒱₀ (c : Thread nD τ) none Set.univ (chk_tok c (ord c (i 0).val)))
  iapply run_bind
  iapply (part1_run xs K c i m3 m4 h3 h4 ht hx hxf hxb hcm)
  isplitr; · iexact HI
  isplitl [HS]; · iexact HS
  iintro HS
  iapply run_bind
  iapply (part2_run xs K c i m3 m4 h3 h4 ht hx hxf hxb hcm)
  isplitr; · iexact HI
  isplitl [HS]; · iexact HS
  iintro HS
  iapply run_bind
  iapply (part3_run xs K c i m3 m4 h3 h4 ht hx hxf hxb hcm _ _ hp X)
  isplitr; · iexact HI
  isplitl [HS]; · iexact HS
  isplitl [Hcb]; · iexact Hcb
  isplitl [Hab]; · iexact Hab
  isplitl [Hw]; · iexact Hw
  isplitl [Hx0]; · iexact Hx0
  isplitl [Hf0]; · iexact Hf0
  isplitl [Ht00]; · iexact Ht00
  isplitr; · iexact Hr00
  iintro %w3 ⟨HO, Hab, HB, Hw, Hc0⟩
  iapply run_bind
  iapply (part4_run xs K c i m3 m4 h3 h4 ht hx hxf hxb hcm)
  isplitr; · iexact HI
  isplitl [HO]; · iexact HO
  isplitl [Hx1]; · iexact Hx1
  isplitl [Hf1]; · iexact Hf1
  isplitl [Ht10]; · iexact Ht10
  isplitr; · iexact Hr10
  isplitl [Hc0]; · iexact Hc0
  isplitl [Ha0]; · iexact Ha0
  isplitl [Hb0]; · iexact Hb0
  iintro %w4 ⟨HO, Hc1, Ha0, #Hr01, Hx0, Hf0, HRd⟩
  obtain ⟨w41, w42, w43⟩ := w4
  ihave HS := (send_start c) $$ [HO HST HB]
  · isplitl [HO]; · iexact HO
    isplitl [HST] <;> iassumption
  iapply run_bind
  iapply (part5_run xs K c i m3 m4 h3 h4 ht hx hxf hxb hcm)
  isplitr; · iexact HI
  isplitl [HS]; · iexact HS
  isplitl [HRd]; · iexact HRd
  iintro %w5 HS
  iapply run_bind
  iapply (part6_run xs K c i m3 m4 h3 h4 ht hx hxf hxb hcm)
  isplitr; · iexact HI
  isplitl [HS]; · iexact HS
  isplitl [Hx2]; · iexact Hx2
  isplitl [Hf0]; · iexact Hf0
  isplitl [Ht01]; · iexact Ht01
  isplitr; · iexact Hr01
  isplitl [Hc1]; · iexact Hc1
  isplitl [Ha1]; · iexact Ha1
  isplitl [Hb1]; · iexact Hb1
  iintro %w6 ⟨HS, Hc0, Ha1, #Hr11, Hx1, Hf1, HB2, HB3⟩
  obtain ⟨w61, w62, w63⟩ := w6
  iapply run_bind
  iapply (part7_run xs K c i m3 m4 h3 h4 ht hx hxf hxb hcm)
  isplitr; · iexact HI
  isplitl [HS]; · iexact HS
  isplitl [HB2]; · iexact HB2
  isplitl [HB3]; · iexact HB3
  isplitl [Hx3]; · iexact Hx3
  isplitl [Hf1]; · iexact Hf1
  isplitl [Ht11]; · iexact Ht11
  isplitr; · iexact Hr11
  isplitl [Hc0]; · iexact Hc0
  isplitl [Ha0]; · iexact Ha0
  iintro %w7 ⟨HS, Hc1, Ha0, Hx2, Hf0⟩
  iapply run_bind
  iapply (part8_run xs K c i m3 m4 h3 h4 ht hx hxf hxb hcm)
  isplitr; · iexact HI
  isplitl [HS]; · iexact HS
  isplitl [Hf0]; · iexact Hf0
  isplitl [Hb2]; · iexact Hb2
  iintro %w8 ⟨HS, Hf0⟩
  iapply run_bind
  iapply (part9_run xs K c i m3 m4 h3 h4 ht hx hxf hxb hcm)
  isplitr; · iexact HI
  isplitl [HS]; · iexact HS
  isplitl [Hc1]; · iexact Hc1
  isplitl [Ha1]; · iexact Ha1
  isplitl [Hb3]; · iexact Hb3
  iintro %w9 ⟨HS, Ha1, Hx3, Hf1, Hown, HB2, HB3⟩
  obtain ⟨w91, w92, w93⟩ := w9
  iapply (send_next xs K c 3 2 14 rfl (by decide) _ _ (snd14 c).2.2.1 _ _ (k0_off63_eq c) _ _ _ _ (snd14 c).2.1 (k0_off62_eq c)
    ⟨k0_dev30 c, k0_dev30_lt i c hp (snd14 c).1⟩ (snd14 c).2.2.2) $$ [HS HB2]
  · isplitr; · iexact HI
    isplitl [HS] <;> iassumption
  iintro HS
  iapply (send_next xs K c 3 3 15 rfl (by decide) _ _ (snd15 c).2.2.1 _ _ (k0_off67_eq c) _ _ _ _ (snd15 c).2.1 (k0_off66_eq c)
    ⟨k0_dev31 c, k0_dev31_lt i c hp (snd15 c).1⟩ (snd15 c).2.2.2) $$ [HS HB3]
  · isplitr; · iexact HI
    isplitl [HS] <;> iassumption
  iintro HS
  ihave HS := (send_done xs c) $$ [HS HA]
  · isplitl [HS] <;> iassumption
  icases HS with ⟨HFr, HSt⟩
  iapply run_ret
  iapply Hk
  isplitl [HT]; · iexact HT
  isplitr [Hw]
  · unfold Mid Rest
    rw [by_turn c (fun q => xP c q (xs c)), by_slot]
    isplitl [HFr]; · iexact HFr
    isplitl [HR]; · iexact HR
    isplitl [HSt]; · iexact HSt
    isplitl [Hcm]; · iexact Hcm
    isplitl [Hown]; · iexact Hown
    isplitl [Hx0 Hx1 Hx2 Hx3]
    · isplitl [Hx0]; · iexact Hx0
      isplitl [Hx1]; · iexact Hx1
      isplitl [Hx2] <;> iassumption
    isplitr [Hab HK]
    · isplitl [Hf0 Ha0]
      · isplitl [Hf0] <;> iassumption
      · isplitl [Hf1] <;> iassumption
    isplitl [Hab] <;> iassumption
  · iexact Hw

end Parts

end Cert.KernelIdeal.A2A
-- ==== Proof.Accum.lean ====
/-
  The middle of the body: the wait for the block of this grid point, the loads of it, and the product it adds.
-/
module

public import proofs.«01_k».proof.Proof.First

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → main_arg0.ty.Contents (Elt F)) (K : GSem nD τ sig → ℕ)

/-- The accumulator with the product of a block of the input and a block of the weights added. -/
def mac (B : Vec F S512x512 .bf16) (W A : Vec F S512x4096 .f32) : Vec F S512x4096 .f32 :=
  addf (A : FVec F S512x4096 .f32) (matmul dot_S512x512_S512x4096_S512x4096_1_0_0_1_n_n none (B : FVec F S512x512 .bf16)
    (truncf .bf16 (W : FVec F S512x4096 .f32) bitsLt_bf16_f32) (constant S512x4096 .f32 0x00000000#32))

theorem pay1_eq (c j : Dev nD) (B v41 : Vec F S512x512 .bf16) (v44 : Vec F S1x512x512 .bf16) (W A : Vec F S512x4096 .f32)
    (h1 : j = c → v41 = B) (h2 : j ≠ c → shapeCast S512x512 v44 shapeCasts_S1x512x512_S512x512 = B) :
    k0_pay1 (F := F) (meW c) (tok j : BitVec 32) v41 v44 W A = mac B W A := by
  unfold k0_pay1 mac
  by_cases h : j = c
  · rw [(tok_eq_me c j).mpr h, h1 h]
    simp only [shapeCast_self]
    rfl
  · have hz : Scalar.cmpi .eq (tok j) (meW c) = 0#1 := by
      rcases (show ∀ b : BitVec 1, b = 0#1 ∨ b = 1#1 from by decide) (Scalar.cmpi .eq (tok j) (meW c)) with e | e
      · exact e
      · exact absurd ((tok_eq_me c j).mp e) h
    rw [hz, h2 h]
    simp only [shapeCast_self]
    rfl

/-- The wait for the block of this grid point, passed over when the block is the device's own. -/
theorem recv_if (c : Dev nD) (k : Fin 16) (T : Finset (Dev nD)) {p : Prop} [Decidable p] (hp : p ↔ ord c k.val ≠ c)
    (sm : p → DmaSem sig) (hs : ∀ h, sm h = recvSem (ord c k.val)) (src dst : p → Memref sig .tc .vmem S512x512 .bf16)
    {hsrc : ∀ h, (src h).view.WordExact} {hdst : ∀ h, (dst h).view.WordExact}
    {α : Type} (kk : Prog (TpuEff nD τ sig (Elt F) Λ₀ .tc) α) (Q : α → sProp 𝕄) :
    iprop(invs xs K ∗ Mid xs c k.val T ∗ (Mid xs c (k.val + 1) T -∗ run c kk Q))
      ⊢ run c (if h : p then .op (.waitDma2 (sm h) (src h) (dst h) (hsrc h) (hdst h)) fun _ => kk else kk) Q := by
  unfold Mid
  iintro ⟨#HI, ⟨HF, HR, H⟩, Hk⟩
  by_cases h : ord c k.val = c
  · rw [dif_neg (fun h' => hp.mp h' h), rleft_self c k h]
    iapply Hk
    isplitl [HF]; · iexact HF
    isplitl [HR] <;> iassumption
  · have hq := rleft_step c k h
    rw [dif_pos (hp.mpr h)]
    iapply (step_recv xs K c (ord c k.val) _ _ hq.1 h hq.2 _ (hs _)) $$ [HF HR]
    · isplitr; · iexact HI
      isplitl [HF] <;> iassumption
    iintro ⟨HF, HR⟩
    iapply Hk
    isplitl [HF]; · iexact HF
    isplitl [HR] <;> iassumption

theorem fam_back {I : Type} [DecidableEq I] {S : Finset I} {d : I} (h : d ∈ S) (Φ : I → sProp 𝕄) :
    iprop(Φ d ∗ bigSep (S.erase d) Φ) ⊢ bigSep S Φ := Entails.of_eq (BI.bigSep_erase h).symm

/-- The load of the device's own block. -/
theorem own_load (c : Dev nD) (n : ℕ) (T : Finset (Dev nD)) (o : Fin 2 → ℕ) (i : ∀ a, o a + S512x512.size a ≤ S8192x512.size a)
    (ho : o = ![c.val * 512, 0]) {hl} {α : Type} (k : Vec F S512x512 .bf16 → Prog (TpuEff nD τ sig (Elt F) Λ₀ .tc) α) (Q : α → sProp 𝕄) :
    Mid xs c n T ⊢ iprop((Mid xs c n T -∗ run c (k (blk xs c c)) Q)
      -∗ run c (.op (.load xbM (Rect.unit (s := S8192x512) o S512x512.size i).toLoadRect hl) k) Q) := by
  subst ho
  unfold Mid
  iintro ⟨HF, HR, HS, Hc, Hb, H⟩ Hk
  iapply (wp_load_rect 𝒱₀ (c : Thread nD τ) none Set.univ (m := xbM) (r := blkR c) (S := (xbBlk c).view.set) (q := fullShare) (f := XB xs c)
    (Finset.Subset.refl _)) $$ Hb
  iintro Hb
  rw [own_read]
  iapply Hk
  isplitl [HF]; · iexact HF
  isplitl [HR]; · iexact HR
  isplitl [HS]; · iexact HS
  isplitl [Hc]; · iexact Hc
  isplitl [Hb] <;> iassumption

/-- The load of a slice held whole. -/
theorem slice_load (c j : Dev nD) (f : cc0_scratch2.ty.Contents (Elt F)) {hl} {α : Type}
    (k : Vec F S1x512x512 .bf16 → Prog (TpuEff nD τ sig (Elt F) Λ₀ .tc) α) (Q : α → sProp 𝕄) :
    cmP c j f ⊢ iprop((cmP c j f -∗ run c (k ((cmM.access (slR j)).read (Elt F) f)) Q)
      -∗ run c (.op (.load cmM (slR j).toLoadRect hl) k) Q) := by
  iintro H Hk
  iapply (wp_load_rect 𝒱₀ (c : Thread nD τ) none Set.univ (m := cmM) (r := slR j) (S := (cmSl j).view.set) (q := fullShare) (f := f)
    (by rw [set_cmSl])) $$ H
  iintro H
  iapply Hk
  iexact H

/-- The load of the slice of this grid point: the block received, or, when the block is the device's own, anything. -/
theorem comm_load (c : Dev nD) (n : Fin 16) (T : Finset (Dev nD)) (o : Fin 3 → ℕ) (i : ∀ a, o a + S1x512x512.size a ≤ S16x512x512.size a)
    (ho : o = ![(ord c n.val).val, 0, 0]) {hl} {α : Type} (k : Vec F S1x512x512 .bf16 → Prog (TpuEff nD τ sig (Elt F) Λ₀ .tc) α) (Q : α → sProp 𝕄) :
    Mid xs c (n.val + 1) T ⊢ iprop((∀ v, ⌜ord c n.val ≠ c → shapeCast S512x512 v shapeCasts_S1x512x512_S512x512 = blk xs (ord c n.val) c⌝
        -∗ Mid xs c (n.val + 1) T -∗ run c (k v) Q)
      -∗ run c (.op (.load cmM (Rect.unit (s := S16x512x512) o S1x512x512.size i).toLoadRect hl) k) Q) := by
  subst ho
  unfold Mid
  iintro ⟨HF, HR, HS, Hc, H⟩ Hk
  by_cases h : ord c n.val = c
  · icases Hc with ⟨%f, Hc⟩
    have e : (cmP c c f : sProp 𝕄) = cmP c (ord c n.val) f := by rw [h]
    ihave Hc := (Entails.of_eq e) $$ Hc
    iapply (slice_load c (ord c n.val) f) $$ Hc
    iintro Hc
    iapply Hk
    · ipureintro; exact fun h' => absurd h h'
    isplitl [HF]; · iexact HF
    isplitl [HR]; · iexact HR
    isplitl [HS]; · iexact HS
    isplitl [Hc]; · iexists f; iapply (Entails.of_eq e.symm); iexact Hc
    iexact H
  · unfold RecvSt
    icases HR with ⟨HT, HD⟩
    ihave HD := (fam_take (ord_taken c n h) (fun j => iprop(cmGot xs c j ∗ atPos ER (recvCell c j) 1 ∅ 0))) $$ HD
    unfold cmGot
    icases HD with ⟨⟨⟨%f, %hf, Hf⟩, Hat⟩, HD⟩
    iapply (slice_load c (ord c n.val) f) $$ Hf
    iintro Hf
    iapply Hk
    · ipureintro; exact fun _ => landed_read xs c _ f hf
    isplitl [HF]; · iexact HF
    isplitl [HT HD Hf Hat]
    · isplitl [HT]; · iexact HT
      iapply (fam_back (ord_taken c n h) (fun j => iprop(cmGot xs c j ∗ atPos ER (recvCell c j) 1 ∅ 0)))
      unfold cmGot
      isplitr [HD]
      · isplitl [Hf]
        · iexists f
          isplitr
          · ipureintro; exact hf
          iexact Hf
        iexact Hat
      iexact HD
    isplitl [HS]; · iexact HS
    isplitl [Hc]; · iexact Hc
    iexact H

end Cert.KernelIdeal.A2A
-- ==== Proof.Last.lean ====
/-
  The end of the body at the last grid point: the waits for the sent blocks, and the activation.
-/
module

public import proofs.«01_k».proof.Proof.Accum

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → main_arg0.ty.Contents (Elt F)) (K : GSem nD τ sig → ℕ)

/-- The wait for the block sent to the device `t` places on. -/
theorem sent_next (c : Dev nD) (n t : ℕ) (h1 : 1 ≤ t) (h2 : t ≤ 15) (o : Fin 2 → ℕ) (i : ∀ a, o a + S1x1.size a ≤ S1x16.size a)
    (ho : o = ![0, (nxt c t).val]) {sp : Space} {s' : Shape} {e' : EltTy} (src : Memref sig .tc sp s' e')
    (dst : Memref sig .tc .vmem S512x512 .bf16) {hsrc : src.view.WordExact} {hdst : dst.view.WordExact}
    {α : Type} (k : PUnit → Prog (TpuEff nD τ sig (Elt F) Λ₀ .tc) α) (Q : α → sProp 𝕄) :
    iprop(invs xs K ∗ Mid xs c n (ahead c t))
      ⊢ iprop((Mid xs c n (ahead c (t + 1)) -∗ run c (k ⟨⟩) Q)
        -∗ run c (.op (.waitDma2 ((cc0_scratch4.slice (Rect.unit (s := S1x16) o S1x1.size i)).squeeze S_ squeezes_S1x1_S_).sem src dst hsrc hdst) k) Q) := by
  obtain ⟨u, rfl⟩ : ∃ u : Fin 15, t = 1 + u.val := ⟨⟨t - 1, by omega⟩, by show t = 1 + (t - 1); omega⟩
  have h := ahead_step c u
  rw [show 1 + u.val + 1 = 2 + u.val from by omega]
  unfold Mid
  iintro ⟨#HI, HF, HR, HS, H⟩ Hk
  iapply (step_sent xs K c (nxt c (1 + u.val)) _ _ h.1 h.2.1 h.2.2 _ (sendsem_eq _ o i ho)) $$ [HF HS]
  · isplitr; · iexact HI
    isplitl [HF] <;> iassumption
  iintro ⟨HF, HS⟩
  iapply Hk
  isplitl [HF]; · iexact HF
  isplitl [HR]; · iexact HR
  isplitl [HS] <;> iassumption

section Parts

variable (c : Dev nD) (n : ℕ) (i : grid0.Coords) (m3 m4 : Memref sig .tc .vmem S512x4096 .f32) (h3 : m3.IsWhole) (h4 : m4.IsWhole)
  (ht : (Memref.whole main_v19 : Memref sig .tc .smem S16 .i32).IsWhole) (hx : xM.IsWhole) (hxf : xfM.IsWhole) (hxb : xbM.IsWhole) (hcm : cmM.IsWhole)
  (v2 : BitVec 32) (h19 : k0_cond19 i = 1#1)

theorem part10_run (Q : PUnit → sProp 𝕄) :
    iprop(invs xs K ∗ Mid xs c n (ahead c 1) ∗ (Mid xs c n (ahead c 4) -∗ Q ⟨⟩))
      ⊢ run c (k0_part10 (F := F) i (Memref.whole main_v19) ht xM hx m3 h3 m4 h4 xfM hxf xbM hxb cmM hcm cc0_scratch3 cc0_scratch4 cc0_scratch5 c v2 h19) Q := by
  rw [k0_part10_eq_skeleton]; unfold k0_part10_skel
  simp only [Prog.bind_op, Prog.bind_lift, Prog.bind_ret, Prog.pure_eq_ret]
  iintro ⟨#HI, H, Hk⟩
  iapply (sent_next xs K c n 1 (by decide) (by decide) _ _ (off73_nxt c 0)) $$ [H]; · isplitr; iexact HI; iexact H
  iintro H
  iapply (sent_next xs K c n 2 (by decide) (by decide) _ _ (off73_nxt c 1)) $$ [H]; · isplitr; iexact HI; iexact H
  iintro H
  iapply (sent_next xs K c n 3 (by decide) (by decide) _ _ (off73_nxt c 2)) $$ [H]; · isplitr; iexact HI; iexact H
  iintro H
  iapply run_ret
  iapply Hk; iexact H

theorem part11_run (Q : PUnit → sProp 𝕄) :
    iprop(invs xs K ∗ Mid xs c n (ahead c 4) ∗ (Mid xs c n (ahead c 7) -∗ Q ⟨⟩))
      ⊢ run c (k0_part11 (F := F) i (Memref.whole main_v19) ht xM hx m3 h3 m4 h4 xfM hxf xbM hxb cmM hcm cc0_scratch3 cc0_scratch4 cc0_scratch5 c v2 h19) Q := by
  rw [k0_part11_eq_skeleton]; unfold k0_part11_skel
  simp only [Prog.bind_op, Prog.bind_lift, Prog.bind_ret, Prog.pure_eq_ret]
  iintro ⟨#HI, H, Hk⟩
  iapply (sent_next xs K c n 4 (by decide) (by decide) _ _ (off73_nxt c 3)) $$ [H]; · isplitr; iexact HI; iexact H
  iintro H
  iapply (sent_next xs K c n 5 (by decide) (by decide) _ _ (off73_nxt c 4)) $$ [H]; · isplitr; iexact HI; iexact H
  iintro H
  iapply (sent_next xs K c n 6 (by decide) (by decide) _ _ (off73_nxt c 5)) $$ [H]; · isplitr; iexact HI; iexact H
  iintro H
  iapply run_ret
  iapply Hk; iexact H

theorem part12_run (Q : PUnit → sProp 𝕄) :
    iprop(invs xs K ∗ Mid xs c n (ahead c 7) ∗ (Mid xs c n (ahead c 10) -∗ Q ⟨⟩))
      ⊢ run c (k0_part12 (F := F) i (Memref.whole main_v19) ht xM hx m3 h3 m4 h4 xfM hxf xbM hxb cmM hcm cc0_scratch3 cc0_scratch4 cc0_scratch5 c v2 h19) Q := by
  rw [k0_part12_eq_skeleton]; unfold k0_part12_skel
  simp only [Prog.bind_op, Prog.bind_lift, Prog.bind_ret, Prog.pure_eq_ret]
  iintro ⟨#HI, H, Hk⟩
  iapply (sent_next xs K c n 7 (by decide) (by decide) _ _ (off73_nxt c 6)) $$ [H]; · isplitr; iexact HI; iexact H
  iintro H
  iapply (sent_next xs K c n 8 (by decide) (by decide) _ _ (off73_nxt c 7)) $$ [H]; · isplitr; iexact HI; iexact H
  iintro H
  iapply (sent_next xs K c n 9 (by decide) (by decide) _ _ (off73_nxt c 8)) $$ [H]; · isplitr; iexact HI; iexact H
  iintro H
  iapply run_ret
  iapply Hk; iexact H

theorem part13_run (Q : PUnit → sProp 𝕄) :
    iprop(invs xs K ∗ Mid xs c n (ahead c 10) ∗ (Mid xs c n (ahead c 13) -∗ Q ⟨⟩))
      ⊢ run c (k0_part13 (F := F) i (Memref.whole main_v19) ht xM hx m3 h3 m4 h4 xfM hxf xbM hxb cmM hcm cc0_scratch3 cc0_scratch4 cc0_scratch5 c v2 h19) Q := by
  rw [k0_part13_eq_skeleton]; unfold k0_part13_skel
  simp only [Prog.bind_op, Prog.bind_lift, Prog.bind_ret, Prog.pure_eq_ret]
  iintro ⟨#HI, H, Hk⟩
  iapply (sent_next xs K c n 10 (by decide) (by decide) _ _ (off73_nxt c 9)) $$ [H]; · isplitr; iexact HI; iexact H
  iintro H
  iapply (sent_next xs K c n 11 (by decide) (by decide) _ _ (off73_nxt c 10)) $$ [H]; · isplitr; iexact HI; iexact H
  iintro H
  iapply (sent_next xs K c n 12 (by decide) (by decide) _ _ (off73_nxt c 11)) $$ [H]; · isplitr; iexact HI; iexact H
  iintro H
  iapply run_ret
  iapply Hk; iexact H

theorem part14_run (Q : PUnit → sProp 𝕄) :
    iprop(invs xs K ∗ Mid xs c n (ahead c 13) ∗ (Mid xs c n (ahead c 16) -∗ Q ⟨⟩))
      ⊢ run c (k0_part14 (F := F) i (Memref.whole main_v19) ht xM hx m3 h3 m4 h4 xfM hxf xbM hxb cmM hcm cc0_scratch3 cc0_scratch4 cc0_scratch5 c v2 h19) Q := by
  rw [k0_part14_eq_skeleton]; unfold k0_part14_skel
  simp only [Prog.bind_op, Prog.bind_lift, Prog.bind_ret, Prog.pure_eq_ret]
  iintro ⟨#HI, H, Hk⟩
  iapply (sent_next xs K c n 13 (by decide) (by decide) _ _ (off73_nxt c 12)) $$ [H]; · isplitr; iexact HI; iexact H
  iintro H
  iapply (sent_next xs K c n 14 (by decide) (by decide) _ _ (off73_nxt c 13)) $$ [H]; · isplitr; iexact HI; iexact H
  iintro H
  iapply (sent_next xs K c n 15 (by decide) (by decide) _ _ (off73_nxt c 14)) $$ [H]; · isplitr; iexact HI; iexact H
  iintro H
  iapply run_ret
  iapply Hk; iexact H

end Parts

end Cert.KernelIdeal.A2A
-- ==== Proof.Body.lean ====
/-
  The whole body, at any grid point.
-/
module

public import proofs.«01_k».proof.Proof.Last

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → main_arg0.ty.Contents (Elt F)) (K : GSem nD τ sig → ℕ)

/-- What a device holds before grid point `k`. -/
def At (c : Dev nD) (k : ℕ) : sProp 𝕄 := if k = 0 then Start xs c else Mid xs c k (if k = 16 then ∅ else ahead c 1)

/-- The accumulator a grid point adds to: cleared at the first. -/
def accIn (k : ℕ) (A : Vec F S512x4096 .f32) : Vec F S512x4096 .f32 := if k = 0 then k0_pay3 else A
/-- The accumulator a grid point leaves: with the activation applied at the last. -/
def accOut (k : ℕ) (A : Vec F S512x4096 .f32) : Vec F S512x4096 .f32 := if k = 15 then k0_pay2 A else A

section Parts

variable (c : Dev nD) (i : grid0.Coords) (m3 m4 : Memref sig .tc .vmem S512x4096 .f32) (h3 : m3.IsWhole) (h4 : m4.IsWhole)
  (ht : (Memref.whole main_v19 : Memref sig .tc .smem S16 .i32).IsWhole) (hx : xM.IsWhole) (hxf : xfM.IsWhole) (hxb : xbM.IsWhole) (hcm : cmM.IsWhole)

/-- The head of the body, at any grid point. -/
theorem head_run (A : Vec F S512x4096 .f32) (Q : HeadR (F := F) → sProp 𝕄) :
    iprop(invs xs K ∗ Tab (F := F) c ∗ At xs c (i 0).val ∗ win c m4 A
        ∗ (∀ v, (Tab (F := F) c ∗ Mid xs c (i 0).val (ahead c 1) ∗ win c m4 (accIn (i 0).val A)) -∗ Q (headV c i v)))
      ⊢ run c (k0_part15 (F := F) i (Memref.whole main_v19) ht xM hx m3 h3 m4 h4 xfM hxf xbM hxb cmM hcm cc0_scratch3 cc0_scratch4 cc0_scratch5) Q := by
  have hi : (i 0).val < 16 := (i 0).isLt
  unfold At accIn
  by_cases h0 : (i 0).val = 0
  · rw [if_pos h0, if_pos h0, h0]
    exact head_zero xs K c i m3 m4 h3 h4 ht hx hxf hxb hcm h0 A Q
  · rw [if_neg h0, if_neg h0, if_neg (by omega)]
    iintro ⟨-, HT, HM, Hw, Hk⟩
    iapply (head_pos c i m3 m4 h3 h4 ht hx hxf hxb hcm h0 Q)
    isplitl [HT]; · iexact HT
    iintro %v HT
    iapply Hk
    isplitl [HT]; · iexact HT
    isplitl [HM] <;> iassumption

/-- The waits for the sent blocks, at the last grid point only. -/
theorem sent_if (v2 : BitVec 32) (n : ℕ) (hn : n = (i 0).val + 1)
    {α : Type} (kk : Prog (TpuEff nD τ sig (Elt F) Λ₀ .tc) α) (Q : α → sProp 𝕄) :
    iprop(invs xs K ∗ Mid xs c n (ahead c 1) ∗ (At xs c n -∗ run c kk Q))
      ⊢ run c (if h : k0_cond19 i = 1#1 then (do
          k0_part10 (F := F) i (Memref.whole main_v19) ht xM hx m3 h3 m4 h4 xfM hxf xbM hxb cmM hcm cc0_scratch3 cc0_scratch4 cc0_scratch5 c v2 h
          k0_part11 (F := F) i (Memref.whole main_v19) ht xM hx m3 h3 m4 h4 xfM hxf xbM hxb cmM hcm cc0_scratch3 cc0_scratch4 cc0_scratch5 c v2 h
          k0_part12 (F := F) i (Memref.whole main_v19) ht xM hx m3 h3 m4 h4 xfM hxf xbM hxb cmM hcm cc0_scratch3 cc0_scratch4 cc0_scratch5 c v2 h
          k0_part13 (F := F) i (Memref.whole main_v19) ht xM hx m3 h3 m4 h4 xfM hxf xbM hxb cmM hcm cc0_scratch3 cc0_scratch4 cc0_scratch5 c v2 h
          k0_part14 (F := F) i (Memref.whole main_v19) ht xM hx m3 h3 m4 h4 xfM hxf xbM hxb cmM hcm cc0_scratch3 cc0_scratch4 cc0_scratch5 c v2 h
          kk) else kk) Q := by
  subst hn
  have hi : (i 0).val < 16 := (i 0).isLt
  unfold At
  rw [if_neg (by omega : ¬ (i 0).val + 1 = 0)]
  iintro ⟨#HI, HM, Hk⟩
  by_cases h : (i 0).val = 15
  · rw [dif_pos ((pt_last i).mpr h), if_pos (by omega : (i 0).val + 1 = 16)]
    iapply run_bind
    iapply (part10_run xs K c)
    isplitr; · iexact HI
    isplitl [HM]; · iexact HM
    iintro HM
    iapply run_bind
    iapply (part11_run xs K c)
    isplitr; · iexact HI
    isplitl [HM]; · iexact HM
    iintro HM
    iapply run_bind
    iapply (part12_run xs K c)
    isplitr; · iexact HI
    isplitl [HM]; · iexact HM
    iintro HM
    iapply run_bind
    iapply (part13_run xs K c)
    isplitr; · iexact HI
    isplitl [HM]; · iexact HM
    iintro HM
    iapply run_bind
    iapply (part14_run xs K c)
    isplitr; · iexact HI
    isplitl [HM]; · iexact HM
    rw [ahead_last]
    iintro HM
    iapply Hk; iexact HM
  · rw [dif_neg (fun h' => h ((pt_last i).mp h')), if_neg (by omega : ¬ (i 0).val + 1 = 16)]
    iapply Hk; iexact HM

/-- The activation, at the last grid point only. -/
theorem silu_if {p : Prop} [Decidable p] (hp : p ↔ (i 0).val = 15) (Y : Vec F S512x4096 .f32) {hl hl' : m4.view.LoadsAt fullR.toLoadRect} {hst hm} (Q : PUnit → sProp 𝕄) :
    iprop(win c m4 Y ∗ (win c m4 (accOut (i 0).val Y) -∗ Q ⟨⟩))
      ⊢ run c (if _h : p then .op (.load m4 fullR.toLoadRect hl) fun v : Vec F S512x4096 .f32 =>
          .op (.load m4 fullR.toLoadRect hl') fun _ => .op (.store m4 fullR (k0_pay2 v) Finset.univ hst hm) fun _ => .ret ⟨⟩ else .ret ⟨⟩) Q := by
  iintro ⟨Hw, Hk⟩
  unfold accOut
  by_cases h : (i 0).val = 15
  · rw [dif_pos (hp.mpr h), if_pos h]
    iapply (step_win_load c m4 Y) $$ Hw
    iintro Hw
    iapply (step_win_load c m4 Y) $$ Hw
    iintro Hw
    iapply (step_win_store c m4 Y (k0_pay2 Y)) $$ Hw
    iintro Hw
    iapply run_ret
    iapply Hk; iexact Hw
  · rw [dif_neg (fun h' => h (hp.mp h')), if_neg h]
    iapply run_ret
    iapply Hk; iexact Hw

theorem body_run (W A : Vec F S512x4096 .f32) (Q : PUnit → sProp 𝕄) :
    iprop(invs xs K ∗ Tab (F := F) c ∗ At xs c (i 0).val ∗ win c m3 W ∗ win c m4 A
        ∗ ((Tab (F := F) c ∗ At xs c ((i 0).val + 1) ∗ win c m3 W
          ∗ win c m4 (accOut (i 0).val (mac (blk xs (ord c (i 0).val) c) W (accIn (i 0).val A)))) -∗ Q ⟨⟩))
      ⊢ run c (cc0_body (F := F) i (Memref.whole main_v19) ht xM hx m3 h3 m4 h4 xfM hxf xbM hxb cmM hcm cc0_scratch3 cc0_scratch4 cc0_scratch5) Q := by
  rw [cc0_body_eq_skeleton]; unfold cc0_body_skel
  iintro ⟨#HI, HT, HS, H3, H4, Hk⟩
  iapply run_bind
  iapply (head_run xs K c i m3 m4 h3 h4 ht hx hxf hxb hcm A)
  isplitr; · iexact HI
  isplitl [HT]; · iexact HT
  isplitl [HS]; · iexact HS
  isplitl [H4]; · iexact H4
  iintro %v ⟨HT, HM, H4⟩
  simp only [headV, Prog.bind_op, Prog.bind_lift, Prog.bind_ret, Prog.pure_eq_ret]
  iapply (recv_if xs K c (⟨(i 0).val, (i 0).isLt⟩ : Fin 16) (ahead c 1) (cond18_tok c _) _ (fun h => recvsem_eq _ _ _ (off69_tok _)))
  isplitr; · iexact HI
  isplitl [HM]; · iexact HM
  iintro HM
  iapply (own_load xs c _ _ _ _ (off71_own c)) $$ HM
  iintro HM
  iapply (comm_load xs c (⟨(i 0).val, (i 0).isLt⟩ : Fin 16) _ _ _ (off72_tok _)) $$ HM
  iintro %w %hw HM
  iapply (step_win_load c m3 W) $$ H3
  iintro H3
  iapply (step_win_load c m4 _) $$ H4
  iintro H4
  iapply (step_win_load c m4 _) $$ H4
  iintro H4
  rw [pay1_eq c (ord c (i 0).val) (blk xs (ord c (i 0).val) c) _ w W _ (fun h => by rw [h]) hw]
  iapply (step_win_store c m4 _ _) $$ H4
  iintro H4
  iapply (sent_if xs K c i m3 m4 h3 h4 ht hx hxf hxb hcm _ _ rfl)
  isplitr; · iexact HI
  isplitl [HM]; · iexact HM
  iintro HM
  iapply (silu_if c i m4 (last_word i))
  isplitl [H4]; · iexact H4
  iintro H4
  iapply Hk
  isplitl [HT]; · iexact HT
  isplitl [HM]; · iexact HM
  isplitl [H3] <;> iassumption

end Parts

end Cert.KernelIdeal.A2A
-- ==== Proof.Open.lean ====
/-
  Entering and leaving the kernel: the cells of its own semaphores opened and closed, what a device starts the first grid
  point with put together, and what it holds after the last one taken apart.
-/
module

public import proofs.«01_k».proof.Proof.Body
public import Idealize.ShloMosaic.Lib.Rounds.Family

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → main_arg0.ty.Contents (Elt F)) (K : GSem nD τ sig → ℕ)

/-! ## The thirty-four semaphores, by what they are for -/

def kx : Fin 2 ↪ Fin 34 := ⟨fun s => ⟨s.val, by have := s.isLt; omega⟩, fun a b h => Fin.ext (by have := congrArg Fin.val h; simpa using this)⟩
def ks : Dev nD ↪ Fin 34 := ⟨fun d => ⟨2 + d.val, by have h : d.val < 16 := d.isLt; omega⟩, fun a b h => Fin.ext (by have := congrArg Fin.val h; simpa using this)⟩
def kr : Dev nD ↪ Fin 34 := ⟨fun d => ⟨18 + d.val, by have h : d.val < 16 := d.isLt; omega⟩, fun a b h => Fin.ext (by have := congrArg Fin.val h; simpa using this)⟩

theorem own_univ : (Finset.univ : Finset (Fin 34)) = Finset.univ.map kx ∪ (Finset.univ.map ks ∪ Finset.univ.map kr) := by decide
theorem own_disj : Disjoint (Finset.univ.map kx) (Finset.univ.map ks ∪ Finset.univ.map kr) := by decide
theorem own_disj' : Disjoint (Finset.univ.map ks) (Finset.univ.map kr) := by decide

theorem own_split (c : Dev nD) (Φ : GSem nD τ sig → sProp 𝕄) :
    bigSep Finset.univ (fun k : Fin 34 => Φ ((c : Thread nD τ), osem k))
      = iprop((bigSep Finset.univ fun s : Fin 2 => Φ (xCell c s)) ∗ (bigSep Finset.univ fun d : Dev nD => Φ (sendCell c d))
        ∗ bigSep Finset.univ fun j : Dev nD => Φ (recvCell c j)) := by
  rw [own_univ, bigSep_union own_disj, bigSep_union own_disj', bigSep_map, bigSep_map, bigSep_map]
  refine congrArg₂ _ rfl (congrArg₂ _ (bigSep_congr fun d _ => ?_) (bigSep_congr fun d _ => ?_))
  · exact congrArg (fun s => Φ ((c : Thread nD τ), s)) (osem_send d)
  · exact congrArg (fun s => Φ ((c : Thread nD τ), s)) (osem_recv d)

/-! ## Opening -/

/-- The rights to open a device's cells. -/
def Shut (c : Dev nD) : sProp 𝕄 := bigSep Finset.univ fun k : Fin 34 => openTok ER ((c : Thread nD τ), osem k)
/-- A cell open at its first round. -/
abbrev Fresh (g : GSem nD τ sig) : sProp 𝕄 := iprop(atPos ER g 0 ∅ 0 ∗ reached ER g 0)

theorem open_cells (c : Dev nD) :
    iprop(invs xs K ∗ Shut (F := F) c ∗ Pipeline.ownSems0 osem c)
      ⊢ |={Set.univ}=> iprop((bigSep Finset.univ fun s : Fin 2 => Fresh (F := F) (xCell c s)) ∗ (bigSep Finset.univ fun d : Dev nD => Fresh (F := F) (sendCell c d))
        ∗ bigSep Finset.univ fun j : Dev nD => Fresh (F := F) (recvCell c j)) := by
  rw [← own_split c (Fresh (F := F))]
  have hi : iprop(invs xs K ∗ Shut (F := F) c)
      ⊢ bigSep Finset.univ fun k : Fin 34 => iprop(cellInv ER (sched xs) (K ((c : Thread nD τ), osem k)) ((c : Thread nD τ), osem k)
        ∗ openTok ER ((c : Thread nD τ), osem k)) := by
    refine bigSep_with_persistent (R := invs xs K) (Φ := fun k : Fin 34 => openTok ER ((c : Thread nD τ), osem k)) fun k _ => ?_
    iintro ⟨#HI, H⟩
    isplitr; · iapply (invs_cell xs K _ (sc_mem c k)); iexact HI
    iexact H
  iintro ⟨#HI, HS, HV⟩
  iapply (Rounds.cells_open ER (sched xs) Finset.univ (fun k : Fin 34 => ((c : Thread nD τ), osem k)) (fun k => K ((c : Thread nD τ), osem k))
    (fun k _ => Set.mem_univ _))
  isplitl [HS]
  · iapply hi
    isplitr; · iexact HI
    iexact HS
  · unfold Pipeline.ownSems0
    iexact HV

/-! ## The first grid point's start -/

/-- What the launch gives a device: its tokens, its credits, its place at the barrier. -/
def Funds (c : Dev nD) : sProp 𝕄 :=
  iprop((bigSep (Finset.univ.erase c) fun p => iprop(dutyTok ER (barCell p) 0 c ∗ reached ER (barCell p) 0))
    ∗ cred (tallyAt (barCell c) () 15) ∗ atPos ER (barCell c) 0 ∅ 0
    ∗ (bigSep (Finset.univ.erase c) fun d => iprop(dutyTok ER (sendCell c d) 0 c ∗ dutyTok ER (recvCell d c) 0 c))
    ∗ (bigSep Finset.univ fun s : Fin 2 => iprop(dutyTok ER (xCell c s) 0 c ∗ dutyTok ER (xCell c s) 1 c))
    ∗ (bigSep (Finset.univ.erase c) fun j => cred (tallyAt (recvCell c j) () NB)))

/-- The three scratch buffers, at any contents. -/
def Scratch (c : Dev nD) : sProp 𝕄 :=
  iprop((∃ f, xfM.view.loc (c : Thread nD τ) ↦{fullShare} f) ∗ (∃ f, xbM.view.loc (c : Thread nD τ) ↦{fullShare} f)
    ∗ (∃ f, cmM.view.loc (c : Thread nD τ) ↦{fullShare} f))

/-- Everything of the first grid point's start but the tallies and the scratch buffers. -/
def Given (c : Dev nD) : sProp 𝕄 :=
  iprop(Funds (F := F) c ∗ ((bigSep Finset.univ fun s : Fin 2 => Fresh (F := F) (xCell c s)) ∗ (bigSep Finset.univ fun d : Dev nD => Fresh (F := F) (sendCell c d))
        ∗ bigSep Finset.univ fun j : Dev nD => Fresh (F := F) (recvCell c j)) ∗ xM.view.loc (c : Thread nD τ) ↦{fullShare} xs c)

theorem start_intro (c : Dev nD) :
    iprop((∃ W, owes (c : Thread nD τ) (O₀ c) W) ∗ Given xs c ∗ Scratch (F := F) c) ⊢ Start xs c := by
  have hsig : iprop((bigSep (Finset.univ.erase c) fun p => iprop(dutyTok ER (barCell p) 0 c ∗ reached ER (barCell p) 0))
      ∗ (bigSep (Finset.univ.erase c) fun p => iprop(∃ f, cmP (F := F) c p f)) ∗ bigSep (Finset.univ.erase c) fun p => reached ER (recvCell c p) 0)
      ⊢ bigSep (Finset.univ.erase c) (SigRes (F := F) c) := by
    rw [← bigSep_sep', ← bigSep_sep']
    refine bigSep_mono fun p _ => ?_
    unfold SigRes barPay
    show iprop((dutyTok ER (barCell p) 0 c ∗ reached ER (barCell p) 0) ∗ ((∃ f, cmP (F := F) c p f) ∗ reached ER (recvCell c p) 0)) ⊢ _
    iintro ⟨⟨H1, H2⟩, H3⟩
    isplitl [H1]; · iexact H1
    isplitl [H2]; · iexact H2
    iexact H3
  have hsend : iprop((bigSep (Finset.univ.erase c) fun d => iprop(dutyTok ER (sendCell c d) 0 c ∗ dutyTok ER (recvCell d c) 0 c))
      ∗ bigSep (Finset.univ.erase c) fun d => reached ER (sendCell c d) 0)
      ⊢ bigSep (Finset.univ.erase c) fun d => SendTok (F := F) c d := by
    rw [← bigSep_sep']
    refine bigSep_mono fun d _ => ?_
    show iprop((dutyTok ER (sendCell c d) 0 c ∗ dutyTok ER (recvCell d c) 0 c) ∗ reached ER (sendCell c d) 0) ⊢ _
    iintro ⟨⟨H1, H2⟩, H3⟩
    isplitl [H1]; · iexact H1
    isplitl [H3] <;> iassumption
  have hslot : iprop((bigSep Finset.univ fun s : Fin 2 => iprop(∃ f, xfP (F := F) c s f))
      ∗ (bigSep Finset.univ fun s : Fin 2 => iprop(dutyTok ER (xCell c s) 0 c ∗ dutyTok ER (xCell c s) 1 c))
      ∗ (bigSep Finset.univ fun s : Fin 2 => Fresh (F := F) (xCell c s)))
      ⊢ bigSep Finset.univ fun s : Fin 2 => SlotIn (F := F) c s := by
    rw [← bigSep_sep', ← bigSep_sep']
    refine bigSep_mono fun s _ => ?_
    show iprop((∃ f, xfP (F := F) c s f) ∗ (dutyTok ER (xCell c s) 0 c ∗ dutyTok ER (xCell c s) 1 c) ∗ (atPos ER (xCell c s) 0 ∅ 0 ∗ reached ER (xCell c s) 0)) ⊢ _
    iintro ⟨H1, ⟨H2, H3⟩, H4, H5⟩
    isplitl [H1]; · iexact H1
    isplitl [H2]; · iexact H2
    isplitl [H3]; · iexact H3
    isplitl [H5] <;> iassumption
  have hrecv : iprop((bigSep (Finset.univ.erase c) fun j => cred (tallyAt (recvCell c j) () NB))
      ∗ bigSep (Finset.univ.erase c) fun j => atPos ER (recvCell c j) 0 ∅ 0) ⊢ RecvSt xs c (rleft c 0) := by
    rw [rleft_zero]
    unfold RecvSt
    rw [Finset.sdiff_self, ← bigSep_sep']
    iintro H
    isplitl [H]; · iexact H
    iapply (Entails.of_eq bigSep_empty.symm)
    iempintro
  unfold Given Funds Scratch Start SigSt Keep
  rw [bigSep_sep' Finset.univ (fun d : Dev nD => atPos ER (sendCell c d) 0 ∅ 0) (fun d => reached ER (sendCell c d) 0),
    bigSep_sep' Finset.univ (fun d : Dev nD => atPos ER (recvCell c d) 0 ∅ 0) (fun d => reached ER (recvCell c d) 0), ahead_one]
  iintro ⟨HO, ⟨⟨Hbt, Hcb, Hab, Hst, Hxt, Hcr⟩, ⟨Hx, ⟨Hsa, Hsr⟩, Hra, Hrr⟩, HxP⟩, Hxf, Hxb, Hcm⟩
  ihave Hcm := (cm_cut c) $$ Hcm
  ihave Hcm := (fam_take (Finset.mem_univ c) _) $$ Hcm
  icases Hcm with ⟨Hcc, Hcm⟩
  ihave Hsa := (fam_take (Finset.mem_univ c) _) $$ Hsa
  icases Hsa with ⟨Hsac, Hsa⟩
  ihave Hsr := (fam_take (Finset.mem_univ c) _) $$ Hsr
  icases Hsr with ⟨-, Hsr⟩
  ihave Hra := (fam_take (Finset.mem_univ c) _) $$ Hra
  icases Hra with ⟨Hrac, Hra⟩
  ihave Hrr := (fam_take (Finset.mem_univ c) _) $$ Hrr
  icases Hrr with ⟨-, Hrr⟩
  isplitl [HO Hbt Hcm Hrr]
  · isplitl [HO]; · iexact HO
    iapply hsig
    isplitl [Hbt]; · iexact Hbt
    isplitl [Hcm] <;> iassumption
  isplitl [Hcb]; · iexact Hcb
  isplitl [Hab]; · iexact Hab
  isplitl [Hst Hsr]
  · iapply hsend
    isplitl [Hst] <;> iassumption
  isplitl [HxP]; · iapply (Entails.of_eq (x_cut c (xs c))) $$ HxP
  isplitl [Hxf Hxt Hx]
  · iapply hslot
    isplitl [Hxf]; · iapply (xf_cut c) $$ Hxf
    isplitl [Hxt] <;> iassumption
  isplitl [Hxb]; · iapply (xb_cut c) $$ Hxb
  isplitl [Hcr Hra]
  · iapply hrecv
    isplitl [Hcr] <;> iassumption
  isplitl [Hcc]; · iexact Hcc
  isplitl [Hsa]; · iexact Hsa
  isplitl [Hsac] <;> iassumption

/-! ## After the last grid point -/

/-- Cells over the devices, a device's own at the first round and the others at the second, closed. -/
theorem close_fam (c : Dev nD) (g : Dev nD → GSem nD τ sig) (hg : ∀ d, g d ∈ bars ∪ scs)
    (hd : ∀ d r, (if d = c then 0 else 1) ≤ r → (sched xs).duties (g d) r = ∅) :
    iprop(invs xs K ∗ atPos ER (g c) 0 ∅ 0 ∗ bigSep (Finset.univ.erase c) fun d => atPos ER (g d) 1 ∅ 0)
      ⊢ |={Set.univ}=> (bigSep Finset.univ fun d : Dev nD => (semVal (g d) 0 : sProp 𝕄)) := by
  have hi : iprop(invs xs K ∗ bigSep Finset.univ fun d : Dev nD => (atPos ER (g d) (if d = c then 0 else 1) ∅ 0 : sProp 𝕄))
      ⊢ bigSep Finset.univ fun d : Dev nD => iprop(cellInv ER (sched xs) (K (g d)) (g d) ∗ atPos ER (g d) (if d = c then 0 else 1) ∅ 0) := by
    refine bigSep_with_persistent (R := invs xs K) (Φ := fun d : Dev nD => (atPos ER (g d) (if d = c then 0 else 1) ∅ 0 : sProp 𝕄)) fun d _ => ?_
    iintro ⟨#HI, H⟩
    isplitr; · iapply (invs_cell xs K _ (hg d)); iexact HI
    iexact H
  have ho : (bigSep (Finset.univ.erase c) fun d => (atPos ER (g d) 1 ∅ 0 : sProp 𝕄))
      = bigSep (Finset.univ.erase c) fun d => (atPos ER (g d) (if d = c then 0 else 1) ∅ 0 : sProp 𝕄) :=
    bigSep_congr fun d hd => by rw [if_neg (Finset.ne_of_mem_erase hd)]
  have hc : (atPos ER (g c) 0 ∅ 0 : sProp 𝕄) = atPos ER (g c) (if c = c then 0 else 1) ∅ 0 := by rw [if_pos rfl]
  rw [ho, hc]
  iintro ⟨#HI, H0, H1⟩
  iapply (Rounds.cells_close ER (sched xs) Finset.univ g (fun d => K (g d)) (fun _ _ => Set.mem_univ _) (fun _ _ h => h)
    (fun d => if d = c then 0 else 1) (fun d _ => hd d))
  iapply hi
  isplitr; · iexact HI
  iapply (fam_back (Finset.mem_univ c) fun d => (atPos ER (g d) (if d = c then 0 else 1) ∅ 0 : sProp 𝕄))
  isplitl [H0] <;> iassumption

theorem finish (c : Dev nD) :
    iprop(invs xs K ∗ At xs c 16)
      ⊢ |={Set.univ}=> iprop(Free (F := F) c ∗ semVal (barCell c) 0 ∗ (xM.view.loc (c : Thread nD τ) ↦{fullShare} xs c)
        ∗ Pipeline.ownSems0 osem c ∗ Scratch (F := F) c) := by
  have hslots : bigSep Finset.univ (fun s : Fin 2 => SlotOut (F := F) c s)
      = iprop((bigSep Finset.univ fun s : Fin 2 => iprop(∃ f, xfP (F := F) c s f)) ∗ bigSep Finset.univ fun s : Fin 2 => atPos ER (xCell c s) 2 ∅ 0) :=
    bigSep_sep' _ _ _
  have hxi : iprop(invs xs K ∗ bigSep Finset.univ fun s : Fin 2 => (atPos ER (xCell c s) 2 ∅ 0 : sProp 𝕄))
      ⊢ bigSep Finset.univ fun s : Fin 2 => iprop(cellInv ER (sched xs) (K (xCell c s)) (xCell c s) ∗ atPos ER (xCell c s) 2 ∅ 0) := by
    refine bigSep_with_persistent (R := invs xs K) (Φ := fun s : Fin 2 => (atPos ER (xCell c s) 2 ∅ 0 : sProp 𝕄)) fun s _ => ?_
    iintro ⟨#HI, H⟩
    isplitr; · iapply (invs_cell xs K _ (x_mem c s)); iexact HI
    iexact H
  have hcm : (bigSep (Finset.univ.erase c) fun j => (cmGot xs c j : sProp 𝕄)) ⊢ bigSep (Finset.univ.erase c) fun j => iprop(∃ f, cmP (F := F) c j f) :=
    bigSep_mono fun j _ => by
      unfold cmGot
      show iprop(∃ f, ⌜(cmSl j).view.read (Elt F) f = blk xs j c⌝ ∗ cmP (F := F) c j f) ⊢ iprop(∃ f, cmP (F := F) c j f)
      iintro ⟨%f, -, H⟩
      iexists f; iexact H
  have hxb : (bigSep (Finset.univ.erase c) fun d => (xbP c d (XB xs c) : sProp 𝕄)) ⊢ bigSep (Finset.univ.erase c) fun d => iprop(∃ f, xbP (F := F) c d f) :=
    bigSep_mono fun d _ => by
      show (xbP c d (XB xs c) : sProp 𝕄) ⊢ iprop(∃ f, xbP (F := F) c d f)
      iintro H
      iexists (XB xs c); iexact H
  unfold At Mid RecvSt SentSt Rest Keep Scratch
  rw [if_neg (by decide), if_pos rfl, rleft_last, Finset.sdiff_empty, bigSep_sep' (Finset.univ.erase c), bigSep_sep' (Finset.univ.erase c), hslots,
    ← x_cut]
  unfold Pipeline.ownSems0
  rw [own_split c fun g => (semVal g 0 : sProp 𝕄)]
  iintro ⟨#HI, HF, ⟨-, Hcm, Hra⟩, ⟨-, Hxb, Hsa⟩, Hcc, Hxc, Hx, ⟨Hxf, Hxa⟩, Hb, Hs0, Hr0⟩
  imod (Rounds.cell_close ER (sched xs) (Set.mem_univ (K (barCell c))) (fun h => h) (later_bar xs c)) $$ [Hb] with Hb
  · isplitr; · iapply (invs_cell xs K _ (bar_mem c)); iexact HI
    iexact Hb
  imod (Rounds.cells_close ER (sched xs) Finset.univ (fun s : Fin 2 => xCell c s) (fun s => K (xCell c s)) (fun _ _ => Set.mem_univ _) (fun _ _ h => h)
    (fun _ => 2) (fun s _ => later_x xs c s)) $$ [Hxa] with Hxa
  · iapply hxi
    isplitr; · iexact HI
    iexact Hxa
  imod (close_fam xs K c (sendCell c) (send_mem c) (later_send xs c)) $$ [Hs0 Hsa] with Hsa
  · isplitr; · iexact HI
    isplitl [Hs0] <;> iassumption
  imod (close_fam xs K c (recvCell c) (recv_mem c) (later_recv xs c)) $$ [Hr0 Hra] with Hra
  · isplitr; · iexact HI
    isplitl [Hr0] <;> iassumption
  imodintro
  isplitl [HF]; · iexact HF
  isplitl [Hb]; · iexact Hb
  isplitl [Hx]; · iexact Hx
  isplitl [Hxa Hsa Hra]
  · isplitl [Hxa]; · iexact Hxa
    isplitl [Hsa] <;> iassumption
  isplitl [Hxf]; · iapply (xf_join c) $$ Hxf
  isplitl [Hxb Hxc]
  · iapply (xb_join c)
    iapply (fam_back (Finset.mem_univ c) fun d => iprop(∃ f, xbP (F := F) c d f))
    isplitl [Hxc]; · iexists (XB xs c); iexact Hxc
    iapply hxb $$ Hxb
  · iapply (cm_join c)
    iapply (fam_back (Finset.mem_univ c) fun d => iprop(∃ f, cmP (F := F) c d f))
    isplitl [Hcc]; · iexact Hcc
    iapply hcm $$ Hcm

end Cert.KernelIdeal.A2A

end
-- ==== Proof.Table.lean ====
/-
  The table of block numbers the host code of each device prepares, evaluated: entry `k` on device `c` is the number of
  `ord c k`.
-/
module

public import proofs.«01_k».proof.Proof.Between
public import proofs.«01_k».proof.Proof.Gen.KernelIdeal.Regions
public import Idealize.ShloMosaic.Lib.StableHlo.RunRead

@[expose] public section

set_option maxRecDepth 16384

noncomputable section

namespace Cert.KernelIdeal.A2A

open Idealize.ShloMosaic
open Idealize.ShloMosaic.TcCoe
open Cert.KernelIdeal Cert.KernelIdeal.Gen

variable {F : FTy → Type} [FloatOps F]
variable (m : (ℓ : Loc nD τ sig) → Buf (Elt F) ℓ)

/-- An integer buffer's contents at one index, as a word. -/
abbrev rdS (V : Valuation τ sig (Elt F)) (r : Ref sig .tc) (h : r.ty = ⟨S_, .i32⟩) : BitVec 32 :=
  (cast (congrArg (fun T : BufTy => T.Contents (Elt F)) h) (V r) : (⟨S_, .i32⟩ : BufTy).Contents (Elt F)) fun a => a.elim0
abbrev rdV (V : Valuation τ sig (Elt F)) (r : Ref sig .tc) (h : r.ty = ⟨S16, .i32⟩) (ix : S16.Idx) : BitVec 32 :=
  (cast (congrArg (fun T : BufTy => T.Contents (Elt F)) h) (V r) : (⟨S16, .i32⟩ : BufTy).Contents (Elt F)) ix
/-- A scalar buffer's contents laid out along the table, at one index. -/
abbrev rdB (V : Valuation τ sig (Elt F)) (r : Ref sig .tc) (h : r.ty = ⟨S_, .i32⟩) (ix : S16.Idx) : BitVec 32 :=
  broadcastInDim (α := BitVec 32) S16 ![] bcast_S_S16
    (cast (congrArg (fun T : BufTy => T.Contents (Elt F)) h) (V r) : (⟨S_, .i32⟩ : BufTy).Contents (Elt F)) ix
theorem rdB_eq (V : Valuation τ sig (Elt F)) (r : Ref sig .tc) (h : r.ty = ⟨S_, .i32⟩) (ix : S16.Idx) : rdB V r h ix = rdS V r h := by
  unfold rdB rdS broadcastInDim
  exact congrArg _ (funext fun a => a.elim0)

/-! ## The two functions the host code calls, on one word -/

/-- The sign of a word. -/
def sgnW (x : BitVec 32) : BitVec 32 := if x = 0 then 0 else if x.msb then -1 else 1
/-- Division rounded down. -/
def fdivW (x y : BitVec 32) : BitVec 32 :=
  Scalar.select (IntOp.andi (IntOp.cmpi .ne (sgnW x) (sgnW y)) (IntOp.cmpi .ne (IntOp.remsi .host x y) 0#32))
    (IntOp.subi (IntOp.divsi .host x y) 1#32) (IntOp.divsi .host x y)
/-- The divisor, but one for zero. -/
def dvW (y : BitVec 32) : BitVec 32 := Scalar.select (IntOp.cmpi .eq y 0#32) 1#32 y
/-- The remainder with the divisor's sign. -/
def fremW (x y : BitVec 32) : BitVec 32 :=
  Scalar.select (IntOp.andi (IntOp.cmpi .ne (IntOp.cmpi .slt (IntOp.remsi .host x (dvW y)) 0#32) (IntOp.cmpi .slt (dvW y) 0#32))
      (IntOp.cmpi .ne (IntOp.remsi .host x (dvW y)) 0#32))
    (IntOp.addi (IntOp.remsi .host x (dvW y)) (dvW y)) (IntOp.remsi .host x (dvW y))

/-! ## The stretches of host code, read at what later ones use -/

section Stretches
variable (V : Valuation τ sig (Elt F)) (c : Dev nD) (ix : S16.Idx)

/-- The remainder with the divisor's sign, as the called function computes it over the table and on one word. -/
theorem frem_table (a : IVec S16 32) (b : IVec S_ 32) (B : IVec S_ 32 → IVec S16 32) (D : IVec S_ 1 → IVec S16 1)
    (hB : B = broadcastInDim S16 ![] bcast_S_S16) (hD : D = broadcastInDim S16 ![] bcast_S_S16) :
    select (andi (cmpi .ne (cmpi .slt (Host.remsi a (B (select (cmpi .eq b (constantI S_ 32 0#32)) (constantI S_ 32 1#32) b))) (B (constantI S_ 32 0#32)))
        (D (cmpi .slt (select (cmpi .eq b (constantI S_ 32 0#32)) (constantI S_ 32 1#32) b) (constantI S_ 32 0#32))))
      (cmpi .ne (Host.remsi a (B (select (cmpi .eq b (constantI S_ 32 0#32)) (constantI S_ 32 1#32) b))) (B (constantI S_ 32 0#32))))
      (addi (Host.remsi a (B (select (cmpi .eq b (constantI S_ 32 0#32)) (constantI S_ 32 1#32) b))) (B (select (cmpi .eq b (constantI S_ 32 0#32)) (constantI S_ 32 1#32) b)))
      (Host.remsi a (B (select (cmpi .eq b (constantI S_ 32 0#32)) (constantI S_ 32 1#32) b))) ix
      = fremW (a ix) (broadcastInDim S16 ![] bcast_S_S16 b ix) := by subst hB hD; rfl
theorem frem_word (a b : IVec S_ 32) (i : S_.Idx) :
    select (andi (cmpi .ne (cmpi .slt (Host.remsi a (select (cmpi .eq b (constantI S_ 32 0#32)) (constantI S_ 32 1#32) b)) (constantI S_ 32 0#32))
        (cmpi .slt (select (cmpi .eq b (constantI S_ 32 0#32)) (constantI S_ 32 1#32) b) (constantI S_ 32 0#32)))
      (cmpi .ne (Host.remsi a (select (cmpi .eq b (constantI S_ 32 0#32)) (constantI S_ 32 1#32) b)) (constantI S_ 32 0#32)))
      (addi (Host.remsi a (select (cmpi .eq b (constantI S_ 32 0#32)) (constantI S_ 32 1#32) b)) (select (cmpi .eq b (constantI S_ 32 0#32)) (constantI S_ 32 1#32) b))
      (Host.remsi a (select (cmpi .eq b (constantI S_ 32 0#32)) (constantI S_ 32 1#32) b)) i
      = fremW (a i) (b i) := rfl

theorem at_v11 : rdV (StableHlo.after hostOps0_5 V) main_v11 rfl ix = fremW (rdV V main_v10 rfl ix) (rdB V main_c_4 rfl ix) := by
  show (StableHlo.after hostOps0_5 V (Proc.devRef .tc main_v11) : (⟨S16, .i32⟩ : BufTy).Contents (Elt F)) ix = _
  after_reads_simp
  simp only [StableHlo.TRef.ofBuf_toBuf, id_eq]
  exact frem_table ix _ _ _ _ rfl rfl
theorem at_v12 : rdS (StableHlo.after hostOps0_7 V) main_v12 rfl = fremW (rdS V main_v4 rfl) (rdS V main_c_5 rfl) := by
  show (StableHlo.after hostOps0_7 V (Proc.devRef .tc main_v12) : (⟨S_, .i32⟩ : BufTy).Contents (Elt F)) _ = _
  after_reads_simp
  simp only [StableHlo.TRef.ofBuf_toBuf, id_eq]
  exact frem_word _ _ _
theorem at_v13 : rdV (StableHlo.after hostOps0_9 V) main_v13 rfl ix = fremW (rdV V main_v5 rfl ix) (rdB V main_c_6 rfl ix) := by
  show (StableHlo.after hostOps0_9 V (Proc.devRef .tc main_v13) : (⟨S16, .i32⟩ : BufTy).Contents (Elt F)) ix = _
  after_reads_simp
  simp only [StableHlo.TRef.ofBuf_toBuf, id_eq]
  exact frem_table ix _ _ _ _ rfl rfl
theorem at_v16 : rdV (StableHlo.after hostOps0_11 V) main_v16 rfl ix = fremW (rdV V main_v15 rfl ix) (rdB V main_c_7 rfl ix) := by
  show (StableHlo.after hostOps0_11 V (Proc.devRef .tc main_v16) : (⟨S16, .i32⟩ : BufTy).Contents (Elt F)) ix = _
  after_reads_simp
  simp only [StableHlo.TRef.ofBuf_toBuf, id_eq]
  exact frem_table ix _ _ _ _ rfl rfl
theorem at_v4 : rdS (StableHlo.after (hostOps0 c) V) main_v4 rfl = IntOp.remui .host (IntOp.divui .host (Dev.word c) 1#32) 16#32 := rfl
theorem at_v5 : rdV (StableHlo.after (hostOps0 c) V) main_v5 rfl ix = BitVec.ofNat 32 (ix 0).val := rfl
theorem at_c1 : rdS (StableHlo.after (hostOps0 c) V) main_c_1 rfl = 4#32 := rfl
theorem at_v6 : rdS (StableHlo.after hostOps0_1 V) main_v6 rfl = fdivW (rdS V main_v4 rfl) (rdS V main_c_1 rfl) := rfl
theorem at_v7 : rdS (StableHlo.after hostOps0_2 V) main_v7 rfl = IntOp.subi (rdS V main_v6 rfl) 1#32 := rfl
theorem at_c3 : rdS (StableHlo.after hostOps0_2 V) main_c_3 rfl = 4#32 := rfl
theorem at_v10 : rdV (StableHlo.after hostOps0_4 V) main_v10 rfl ix = IntOp.subi (rdB V main_v7 rfl ix) (rdV V main_v8 rfl ix) := rfl
theorem at_c4 : rdS (StableHlo.after hostOps0_4 V) main_c_4 rfl = 4#32 := rfl
theorem at_c5 : rdS (StableHlo.after hostOps0_6 V) main_c_5 rfl = 4#32 := rfl
theorem at_c6 : rdS (StableHlo.after hostOps0_8 V) main_c_6 rfl = 4#32 := rfl
theorem at_v15 : rdV (StableHlo.after hostOps0_10 V) main_v15 rfl ix = IntOp.subi (rdB V main_v12 rfl ix) (rdV V main_v13 rfl ix) := rfl
theorem at_c7 : rdS (StableHlo.after hostOps0_10 V) main_c_7 rfl = 4#32 := rfl
theorem at_v19 : rdV (StableHlo.after hostOps0_12 V) main_v19 rfl ix = IntOp.addi (IntOp.muli (rdV V main_v11 rfl ix) 4#32) (rdV V main_v16 rfl ix) := rfl
theorem at_v8 : rdV (StableHlo.after hostOps0_3 V) main_v8 rfl ix = fdivW (rdV V main_v5 rfl ix) (rdB V main_c_3 rfl ix) := rfl
end Stretches

theorem rdS_of {V V' : Valuation τ sig (Elt F)} {r : Ref sig .tc} (h : r.ty = ⟨S_, .i32⟩) (e : V r = V' r) : rdS V r h = rdS V' r h := by
  unfold rdS; rw [e]
theorem rdV_of {V V' : Valuation τ sig (Elt F)} {r : Ref sig .tc} (h : r.ty = ⟨S16, .i32⟩) (ix : S16.Idx) (e : V r = V' r) : rdV V r h ix = rdV V' r h ix := by
  unfold rdV; rw [e]

/-- Entry `k` of the table on device `c`, in the host code's own words. -/
def entryW (c k : Fin 16) : BitVec 32 :=
  IntOp.addi (IntOp.muli (fremW (IntOp.subi (IntOp.subi (fdivW (IntOp.remui .host (IntOp.divui .host (BitVec.ofNat 32 c.val) 1#32) 16#32) 4#32) 1#32)
      (fdivW (BitVec.ofNat 32 k.val) 4#32)) 4#32) 4#32)
    (fremW (IntOp.subi (fremW (IntOp.remui .host (IntOp.divui .host (BitVec.ofNat 32 c.val) 1#32) 16#32) 4#32) (fremW (BitVec.ofNat 32 k.val) 4#32)) 4#32)

theorem entryW_eq : ∀ c k : Fin 16, entryW c k = tok (ord c k.val) := by decide +kernel

section Carry
variable (c : Dev nD) (ix : S16.Idx)

theorem w_v4 : rdS (V1 m c) main_v4 rfl = IntOp.remui .host (IntOp.divui .host (Dev.word c) 1#32) 16#32 := at_v4 (V0 m c) c
theorem w_v6 : rdS (V2 m c) main_v6 rfl = fdivW (rdS (V1 m c) main_v4 rfl) 4#32 :=
  (at_v6 (V1 m c)).trans (congrArg _ (at_c1 (V0 m c) c))
theorem w_v7 : rdS (V4 m c) main_v7 rfl = IntOp.subi (rdS (V2 m c) main_v6 rfl) 1#32 :=
  (rdS_of rfl (V4_of m c main_v7 (by decide))).trans (at_v7 (V2 m c))
theorem w_v8 : rdV (V4 m c) main_v8 rfl ix = fdivW (BitVec.ofNat 32 (ix 0).val) 4#32 := by
  refine (at_v8 (V3 m c) ix).trans ?_
  rw [rdB_eq, show rdS (V3 m c) main_c_3 rfl = 4#32 from at_c3 (V2 m c)]
  exact congrArg (fdivW · _) ((rdV_of rfl ix ((V3_of m c main_v5 (by decide)).trans (V2_of m c main_v5 (by decide)))).trans (at_v5 (V0 m c) c ix))
theorem w_v11 : rdV (V12 m c) main_v11 rfl ix
    = fremW (IntOp.subi (rdS (V4 m c) main_v7 rfl) (rdV (V4 m c) main_v8 rfl ix)) 4#32 := by
  refine (rdV_of rfl ix ((V12_of m c main_v11 (by decide)).trans <| (V11_of m c main_v11 (by decide)).trans <| (V10_of m c main_v11 (by decide)).trans <|
    (V9_of m c main_v11 (by decide)).trans <| (V8_of m c main_v11 (by decide)).trans (V7_of m c main_v11 (by decide)))).trans ?_
  refine (at_v11 (V5 m c) ix).trans ?_
  rw [rdB_eq, show rdS (V5 m c) main_c_4 rfl = 4#32 from at_c4 (V4 m c),
    show rdV (V5 m c) main_v10 rfl ix = _ from at_v10 (V4 m c) ix, rdB_eq]
theorem w_v12 : rdS (V10 m c) main_v12 rfl = fremW (rdS (V1 m c) main_v4 rfl) 4#32 := by
  refine (rdS_of rfl ((V10_of m c main_v12 (by decide)).trans (V9_of m c main_v12 (by decide)))).trans ?_
  refine (at_v12 (V7 m c)).trans ?_
  rw [show rdS (V7 m c) main_c_5 rfl = 4#32 from at_c5 (V6 m c)]
  exact congrArg (fremW · _) (rdS_of rfl ((V7_of m c main_v4 (by decide)).trans <| (V6_of m c main_v4 (by decide)).trans <| (V5_of m c main_v4 (by decide)).trans <|
    (V4_of m c main_v4 (by decide)).trans <| (V3_of m c main_v4 (by decide)).trans (V2_of m c main_v4 (by decide))))
theorem w_v13 : rdV (V10 m c) main_v13 rfl ix = fremW (BitVec.ofNat 32 (ix 0).val) 4#32 := by
  refine (at_v13 (V9 m c) ix).trans ?_
  rw [rdB_eq, show rdS (V9 m c) main_c_6 rfl = 4#32 from at_c6 (V8 m c)]
  exact congrArg (fremW · _) ((rdV_of rfl ix ((V9_of m c main_v5 (by decide)).trans <| (V8_of m c main_v5 (by decide)).trans <| (V7_of m c main_v5 (by decide)).trans <|
    (V6_of m c main_v5 (by decide)).trans <| (V5_of m c main_v5 (by decide)).trans <| (V4_of m c main_v5 (by decide)).trans <|
    (V3_of m c main_v5 (by decide)).trans (V2_of m c main_v5 (by decide)))).trans (at_v5 (V0 m c) c ix))
theorem w_v16 : rdV (V12 m c) main_v16 rfl ix = fremW (IntOp.subi (rdS (V10 m c) main_v12 rfl) (rdV (V10 m c) main_v13 rfl ix)) 4#32 := by
  refine (at_v16 (V11 m c) ix).trans ?_
  rw [rdB_eq, show rdS (V11 m c) main_c_7 rfl = 4#32 from at_c7 (V10 m c),
    show rdV (V11 m c) main_v15 rfl ix = _ from at_v15 (V10 m c) ix, rdB_eq]

/-- The table the host code leaves on device `c`. -/
theorem table_eq : (V13 m c main_v19 : main_v19.ty.Contents (Elt F)) = tabOf F c := by
  funext ix
  refine (at_v19 (V12 m c) ix).trans ?_
  rw [w_v11, w_v16, w_v12, w_v13, w_v7, w_v8, w_v6, w_v4]
  exact entryW_eq c (ix 0)

end Carry

end Cert.KernelIdeal.A2A

end
-- ==== Proof.Data.lean ====
/-
  The kernel as a pipeline of sixteen grid points: the table it is entered with, what each window holds at each grid point,
  and what holds between grid points.
-/
module

public import proofs.«01_k».proof.Proof.Open
public import proofs.«01_k».proof.Proof.Table
public import Idealize.ShloMosaic.Lib.Pipeline.Regions
public import Idealize.ShloMosaic.Lib.Pipeline.Value

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

/-! ## The table -/

/-- The table of device `c` as the pipeline reads it. -/
def tabs (c : Dev nD) : pre0.Contents (Elt F) := fun | 0 => tabOf F c | ⟨_ + 1, h⟩ => absurd h (Nat.not_lt.2 (Nat.le_add_left _ _))

/-- The row block of the weights that a grid point reads: the one the table names. -/
theorem tab_ix (c : Dev nD) (i : grid0.Coords) :
    cc0_transform_1 k0_off1_inb numel1_S1 (tabs (F := F) c) i = ![(ord c (i 0).val).val, 0] := by
  have h : ∀ x : (Rect.unit (s := S16) (k0_off1 i) S1.size (k0_off1_inb i)).shape.Idx,
      ((Rect.unit (s := S16) (k0_off1 i) S1.size (k0_off1_inb i)).emb x 0).val = (i 0).val := off2_pt i
  have e : (tok (ord c (i 0).val)).toNat = (ord c (i 0).val).val := by
    have : (ord c (i 0).val).val < 16 := (ord c (i 0).val).isLt
    show (BitVec.ofNat 32 _).toNat = _
    rw [BitVec.toNat_ofNat]; omega
  have h0 : (tabs (F := F) c).at 0 (Rect.unit (s := S16) (k0_off1 i) S1.size (k0_off1_inb i)) numel1_S1 = tok (ord c (i 0).val) :=
    congrArg (fun n => tok (ord c n)) (h _)
  unfold cc0_transform_1
  show ![BitVec.toNat ((tabs (F := F) c).at 0 (Rect.unit (s := S16) (k0_off1 i) S1.size (k0_off1_inb i)) numel1_S1), BitVec.toNat 0#32] = _
  rw [h0, e]
  rfl

theorem tabs_ok (c : Dev nD) : ok0 (tabs (F := F) c) := fun i => by
  refine ⟨fun a => ?_, .inl rfl⟩
  have hj : (ord c (i 0).val).val < 16 := (ord c (i 0).val).isLt
  rw [tab_ix]
  match a with
  | 0 => show ((ord c (i 0).val).val + 1) * 512 ≤ 8192; omega
  | 1 => show (0 + 1) * 4096 ≤ 4096; omega

/-- Every device's table, admissible. -/
def adm (c : Dev nD) (p : Fin 1) : (pcfgs (F := F) p).Adm := ⟨match p with | 0 => tabs c, match p with | 0 => tabs_ok c⟩

theorem phinj : Function.Injective (Pipeline.PerCore.cellOf (nD := nD) (τ := τ) (Pipeline.pinD (pcfgs (F := F)) adm)) :=
  Pipeline.PerCore.cellOf_injective _ (fun c p => match p with | 0 => (by decide : Pipeline.SpecSemsDistinct spec0))
    (fun c p p' h => absurd (Subsingleton.elim p p') h)

theorem coord_val : ∀ t : Fin grid0.N, (grid0.coords t 0).val = t.val := by decide +kernel

/-! ## The windows' contents -/

/-- Rows `512 j` to `512 j + 511` of the weights. -/
def wB (w : main_arg1.ty.Contents (Elt F)) (j : Dev nD) : Vec F S512x4096 .f32 := fun ix =>
  w (fun | 0 => ⟨j.val * 512 + (ix 0).val, by have h : (ix 0).val < 512 := (ix 0).isLt; have h' : j.val < 16 := j.isLt; show _ < 8192; omega⟩
         | 1 => ⟨(ix 1).val, (ix 1).isLt⟩)

/-- The products of the first `k` blocks in the order of the visits, added up. -/
def acc (xs : Dev nD → main_arg0.ty.Contents (Elt F)) (w : main_arg1.ty.Contents (Elt F)) (c : Dev nD) : ℕ → Vec F S512x4096 .f32
  | 0 => k0_pay3
  | k + 1 => mac (blk xs (ord c k) c) (wB w (ord c k)) (acc xs w c k)

/-- The result of device `c`: the sum over all sixteen blocks, through the last grid point's nonlinearity. -/
def res (xs : Dev nD → main_arg0.ty.Contents (Elt F)) (w : main_arg1.ty.Contents (Elt F)) (c : Dev nD) : Vec F S512x4096 .f32 :=
  k0_pay2 (acc xs w c 16)

/-- What the accumulator holds after grid point `k`. -/
def accAfter (xs : Dev nD → main_arg0.ty.Contents (Elt F)) (w : main_arg1.ty.Contents (Elt F)) (c : Dev nD) (k : ℕ) : Vec F S512x4096 .f32 :=
  accOut k (acc xs w c (k + 1))

/-! ## Between grid points -/

variable (xs : Dev nD → main_arg0.ty.Contents (Elt F)) (ws : Dev nD → main_arg1.ty.Contents (Elt F)) (os : Dev nD → main_v20.ty.Contents (Elt F))

/-- What is held between grid points of the middle, the tallies apart. -/
def MidR (c : Dev nD) (n : ℕ) : sProp 𝕄 :=
  iprop(RecvSt xs c (rleft c n) ∗ SentSt xs c (ahead c 1) ∗ (∃ f, cmP (F := F) c c f) ∗ xbP c c (XB xs c) ∗ Rest xs c)

/-- What is held before grid point `n`, the tallies apart; after the last, all that the kernel was given. -/
def Between (c : Dev nD) (n : ℕ) : sProp 𝕄 :=
  if n = 16 then iprop(semVal (barCell c) 0 ∗ Tab (F := F) c ∗ (xM.view.loc (c : Thread nD τ) ↦{fullShare} xs c)
    ∗ Pipeline.ownSems0 osem c ∗ Scratch (F := F) c)
  else iprop((∃ K, invs xs K) ∗ Tab (F := F) c ∗ if n = 0 then iprop(Given xs c ∗ Scratch (F := F) c) else MidR xs c n)

/-- What the device still owes before grid point `n`. -/
def owedAt (c : Dev nD) (n : ℕ) : CellTallies nD τ sig Unit := if n = 0 then O₀ c else 0

theorem between_open (c : Dev nD) (n : ℕ) (hn : n < 16) :
    iprop(Between xs c n ∗ ∃ W, owes (c : Thread nD τ) (owedAt c n) W) ⊢ iprop((∃ K, invs xs K) ∗ Tab (F := F) c ∗ At xs c n) := by
  unfold Between owedAt At
  rw [if_neg (by omega : n ≠ 16)]
  by_cases h : n = 0
  · rw [if_pos h, if_pos h, if_pos h]
    iintro ⟨⟨HI, HT, HG, HS⟩, HO⟩
    isplitl [HI]; · iexact HI
    isplitl [HT]; · iexact HT
    iapply (start_intro xs c)
    isplitl [HO]; · iexact HO
    isplitl [HG] <;> iassumption
  · rw [if_neg h, if_neg h, if_neg h, if_neg (by omega : n ≠ 16)]
    unfold MidR Mid Free
    iintro ⟨⟨HI, HT, HM⟩, HO⟩
    isplitl [HI]; · iexact HI
    isplitl [HT]; · iexact HT
    isplitl [HO] <;> iassumption

theorem between_close (K : GSem nD τ sig → ℕ) (c : Dev nD) (n : ℕ) (hn : n < 16) :
    iprop(invs xs K ∗ Tab (F := F) c ∗ At xs c (n + 1))
      ⊢ |={Set.univ}=> iprop(Between xs c (n + 1) ∗ ∃ W, owes (c : Thread nD τ) (owedAt c (n + 1)) W) := by
  unfold owedAt
  rw [if_neg (by omega : n + 1 ≠ 0)]
  by_cases h : n + 1 = 16
  · rw [h]
    unfold Between
    rw [if_pos rfl]
    iintro ⟨#HI, HT, HA⟩
    imod (finish xs K c) $$ [HA] with HF
    · isplitr; · iexact HI
      iexact HA
    unfold Free
    icases HF with ⟨HO, Hb, Hx, Hs, Hc⟩
    imodintro
    isplitr [HO]
    · isplitl [Hb]; · iexact Hb
      isplitl [HT]; · iexact HT
      isplitl [Hx]; · iexact Hx
      isplitl [Hs] <;> iassumption
    · iexact HO
  · unfold Between At
    rw [if_neg h, if_neg (by omega : n + 1 ≠ 0), if_neg (by omega : n + 1 ≠ 0), if_neg h]
    unfold MidR Mid Free
    iintro ⟨#HI, HT, HO, HM⟩
    imodintro
    isplitr [HO]
    · isplitr; · iexists K; iexact HI
      isplitl [HT] <;> iassumption
    · iexact HO

/-! ## The proof data -/

/-- What a window's staging buffer holds after grid point `n`. -/
def afterW (c : Dev nD) (n : ℕ) : (w : Fin 2) → (spec0 w).block.Idx → Elt F (spec0 w).elt
  | 0 => wB (ws c) (ord c n)
  | 1 => accAfter xs (ws c) c n
  | ⟨_ + 2, h⟩ => absurd h (Nat.not_lt.2 (Nat.le_add_left _ _))

/-- What the windows' arrays hold when the kernel starts. -/
def arrW (c : Dev nD) : (w : Fin 2) → Buf (Elt F) ((spec0 w).arr.view.loc (c : Thread nD τ))
  | 0 => ws c
  | 1 => os c
  | ⟨_ + 2, h⟩ => absurd h (Nat.not_lt.2 (Nat.le_add_left _ _))

def dats (p : Fin 1) (c : Dev nD) : Dat τ (Elt F) Unit ℕ UU ℕ (Pipeline.pinD (pcfgs (F := F)) adm c p) c :=
  match p with
  | 0 => { A := arrW ws os c
           after := fun w t => afterW xs ws c t.val w
           Φ := fun t => Between xs c t.val
           q := fun _ => fullShare
           owed := fun t => owedAt c t.val }

local notation "D" => dats xs ws os

theorem fetch_w (c : Dev nD) (t : Fin grid0.N) : ((cfg0 (F := F) (adm c 0)).win 0).fetch t = true := by
  unfold Pipeline.Window.fetch
  have hN : t.val < 16 := t.isLt.trans_eq N_0
  by_cases h : t.val = 0
  · simp [h]; rfl
  · have : ∃ h : 0 < t.val, ((cfg0 (F := F) (adm c 0)).win 0).index t ≠ ((cfg0 (F := F) (adm c 0)).win 0).index ⟨t.val - 1, Nat.lt_of_le_of_lt (Nat.sub_le _ _) t.isLt⟩ := by
      refine ⟨Nat.pos_of_ne_zero h, fun e => ?_⟩
      have e' := congrFun ((tab_ix c (grid0.coords t)).symm.trans (e.trans (tab_ix c (grid0.coords ⟨t.val - 1, Nat.lt_of_le_of_lt (Nat.sub_le _ _) t.isLt⟩)))) 0
      rw [coord_val, coord_val] at e'
      have := (ord_bij c).1 (a₁ := ⟨t.val, hN⟩) (a₂ := ⟨t.val - 1, by omega⟩) (Fin.ext e')
      have := congrArg Fin.val this
      simp at this; omega
    rw [decide_eq_true this, Bool.or_true]; rfl

theorem blockOf_w (c : Dev nD) (t : Fin grid0.N) : (D 0 c).blockOf (0 : Fin 2) t = wB (ws c) (ord c t.val) := by
  funext ix
  show ws c _ = ws c _
  refine congrArg (ws c) (funext fun a => Fin.ext ?_)
  have e := tab_ix (F := F) c (grid0.coords t)
  rw [coord_val] at e
  match a with
  | 0 =>
    show cc0_transform_1 k0_off1_inb numel1_S1 (tabs (F := F) c) (grid0.coords t) 0 * 512 + 1 * (ix 0).val = _
    rw [e, Nat.one_mul]; rfl
  | 1 =>
    show cc0_transform_1 k0_off1_inb numel1_S1 (tabs (F := F) c) (grid0.coords t) 1 * 4096 + 1 * (ix 1).val = _
    rw [e, Nat.one_mul]
    show 0 * 4096 + _ = _
    rw [Nat.zero_mul, Nat.zero_add]
    rfl

theorem before_w (c : Dev nD) (t : Fin grid0.N) (d) : (D 0 c).before (0 : Fin 2) t d = wB (ws c) (ord c t.val) := by
  unfold Pipeline.Dat.before
  rw [show ((Pipeline.pinD (pcfgs (F := F)) adm c 0).win (0 : Fin 2)).fetch t = true from fetch_w c t, if_pos rfl]
  exact blockOf_w xs ws os c t

theorem fetch_o (c : Dev nD) (t : Fin grid0.N) : ((cfg0 (F := F) (adm c 0)).win 1).fetch t = false := rfl

theorem flush_o (c : Dev nD) (t : Fin grid0.N) (h : t.val ≠ 15) : ((cfg0 (F := F) (adm c 0)).win 1).flush t = false := by
  have hN : t.val < 16 := t.isLt.trans_eq N_0
  have h1 : ¬ (t.val + 1 = grid0.N) := fun e => h (by have := e.trans N_0; omega)
  unfold Pipeline.Window.flush
  show (true && (decide (t.val + 1 = grid0.N) || decide _)) = false
  rw [decide_eq_false h1, decide_eq_false]; rfl
  rintro ⟨_, e⟩
  exact e rfl

theorem flush_last (c : Dev nD) (t : Fin grid0.N) (h : t.val = 15) : ((cfg0 (F := F) (adm c 0)).win 1).flush t = true := by
  unfold Pipeline.Window.flush
  show (true && (decide (t.val + 1 = grid0.N) || decide _)) = true
  rw [decide_eq_true ((congrArg (· + 1) h).trans N_0.symm)]; rfl

/-- The accumulator enters a grid point as the one before left it; what it enters the first with is overwritten. -/
theorem before_o (c : Dev nD) (t : Fin grid0.N) (d) :
    accIn t.val ((D 0 c).before (1 : Fin 2) t d) = acc xs (ws c) c t.val := by
  have hN : t.val < 16 := t.isLt.trans_eq N_0
  unfold accIn
  by_cases h : t.val = 0
  · rw [if_pos h, h]; rfl
  · rw [if_neg h, Pipeline.Dat.before_of_pos (D 0 c) (1 : Fin 2) t h (fetch_o c t) d,
      if_neg (by
        rw [show ((Pipeline.pinD (pcfgs (F := F)) adm c 0).win (1 : Fin 2)).flush ⟨t.val - 1, Nat.lt_of_le_of_lt (Nat.sub_le _ _) t.isLt⟩ = false
          from flush_o c _ (by show t.val - 1 ≠ 15; omega)]
        exact Bool.false_ne_true)]
    show accAfter xs (ws c) c (t.val - 1) = _
    unfold accAfter accOut
    rw [if_neg (by omega), Nat.sub_add_cancel (Nat.pos_of_ne_zero h)]

/-- The accumulator's window is the whole array, written back once. -/
theorem array_o (c : Dev nD) : (D 0 c).arrAt (1 : Fin 2) grid0.N = res xs (ws c) c := by
  refine Pipeline.Dat.arrAt_eq_of_cover (D 0 c) (1 : Fin 2) (res xs (ws c) c) (fun t hf => ?_) fun ix => ?_
  · have h : t.val = 15 := by
      by_contra h
      exact Bool.false_ne_true ((flush_o c t h).symm.trans hf)
    show accAfter xs (ws c) c t.val = _
    funext ix
    rw [h]
    unfold accAfter accOut
    rw [if_pos rfl]
    refine congrArg (res xs (ws c) c) (funext fun a => Fin.ext ?_)
    match a with
    | 0 => show (ix 0).val = 0 * 512 + 1 * (ix 0).val; omega
    | 1 => show (ix 1).val = 0 * 4096 + 1 * (ix 1).val; omega
  · refine ⟨t0_15, flush_last c t0_15 rfl, ?_⟩
    refine Finset.mem_map.mpr ⟨ix, Finset.mem_univ _, funext fun a => Fin.ext ?_⟩
    match a with
    | 0 => show 0 * 512 + 1 * (ix 0).val = (ix 0).val; omega
    | 1 => show 0 * 4096 + 1 * (ix 1).val = (ix 1).val; omega

/-! ## The body's obligation -/

theorem owes_intro (c : Dev nD) (t : Fin (grid0.N + 1)) : iprop(∃ W, owes (c : Thread nD τ) (owedAt c t.val) W) ⊢ ((D 0 c).owesAt () t : sProp 𝕄) := by
  unfold Pipeline.Dat.owesAt Pipeline.owesWithin Pipeline.Dat.bound
  iintro ⟨%W, HO⟩
  iexists W
  isplitr; · ipureintro; exact fun _ _ => Or.inl trivial
  iexact HO

theorem owes_elim (c : Dev nD) (t : Fin (grid0.N + 1)) : ((D 0 c).owesAt () t : sProp 𝕄) ⊢ iprop(∃ W, owes (c : Thread nD τ) (owedAt c t.val) W) := by
  unfold Pipeline.Dat.owesAt Pipeline.owesWithin
  iintro ⟨%W, -, HO⟩
  iexists W
  iexact HO

theorem body_ob (c : Dev nD) : Pipeline.BodyObligation (D 0 c) defs₀ 𝒱₀ () Set.univ := fun t => by
  have hN : t.val < 16 := t.isLt.trans_eq N_0
  have ht : (grid0.coords t 0).val = t.val := coord_val t
  rw [bigSep_W0, bigSep_W0]
  show iprop(Between xs c t.val ∗ (D 0 c).owesAt () t.castSucc
      ∗ (∃ d, owns (c : Thread nD τ) _ fullShare ((D 0 c).before (0 : Fin 2) t d)) ∗ (∃ d, owns (c : Thread nD τ) _ fullShare ((D 0 c).before (1 : Fin 2) t d)))
    ⊢ run c (cc0_body (F := F) (grid0.coords t) (Memref.whole main_v19) _ xM _ _ _ _ _ xfM _ xbM _ cmM _ cc0_scratch3 cc0_scratch4 cc0_scratch5) fun _ =>
      iprop(Between xs c (t.val + 1) ∗ (D 0 c).owesAt () t.succ
        ∗ owns (c : Thread nD τ) _ fullShare (wB (ws c) (ord c t.val)) ∗ owns (c : Thread nD τ) _ fullShare (accAfter xs (ws c) c t.val))
  iintro ⟨HB, HO, ⟨%d, H3⟩, ⟨%d', H4⟩⟩
  ihave HO := (owes_elim xs ws os c t.castSucc) $$ HO
  ihave HA := (between_open xs c t.val hN) $$ [HB HO]
  · isplitl [HB]; · iexact HB
    iexact HO
  icases HA with ⟨⟨%K, #HI⟩, HT, HA⟩
  iapply (wp_fupd _ _ _ _)
  iapply (body_run xs K c (grid0.coords t) _ _ _ _ _ _ _ _ _ (wB (ws c) (ord c t.val)) ((D 0 c).before (1 : Fin 2) t d') _)
  rw [ht, before_o, before_w]
  isplitr; · iexact HI
  isplitl [HT]; · iexact HT
  isplitl [HA]; · iexact HA
  isplitl [H3]; · iexact H3
  isplitl [H4]; · iexact H4
  iintro ⟨HT, HA, H3, H4⟩
  imod (between_close xs K c t.val hN) $$ [HT HA] with HB
  · isplitr; · iexact HI
    isplitl [HT] <;> iassumption
  icases HB with ⟨HB, HO⟩
  imodintro
  isplitl [HB]; · iexact HB
  isplitl [HO]; · iapply (owes_intro xs ws os c t.succ); iexact HO
  isplitl [H3]; · iexact H3
  iexact H4

end Cert.KernelIdeal.A2A

end
-- ==== Proof.Region.lean ====
/-
  The kernel as one region of the program: entered with the unscoped buffers as the host operations left them, left with the
  result array holding the sum over the sixteen blocks through the nonlinearity.
-/
module

public import proofs.«01_k».proof.Proof.Data

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The arguments and the valuations -/

/-- The argument blocks, by device; the third is the result array before the kernel. -/
def xsOf (c : Dev nD) : main_arg0.ty.Contents (Elt F) := m ((c : Thread nD τ).loc main_arg0)
def wsOf (c : Dev nD) : main_arg1.ty.Contents (Elt F) := m ((c : Thread nD τ).loc main_arg1)
def osOf (c : Dev nD) : main_v20.ty.Contents (Elt F) := V13 m c main_v20

/-- What the kernel leaves in the result array; at every other reference, as it was. -/
def leaves : Outs (F := F) := fun _ r c => if h : r = main_v20 then h ▸ res (xsOf m) (wsOf m c) c else V13 m c r

theorem leaves_v20 (c : Dev nD) : leaves m 14 main_v20 c = res (xsOf m) (wsOf m c) c := dif_pos rfl

theorem V13_arg0 (c : Dev nD) : (V13 m c main_arg0 : main_arg0.ty.Contents (Elt F)) = xsOf m c :=
  (V14_of m (leaves m) c main_arg0 (by decide)).symm.trans (V14_main_arg0 m (leaves m) c)
theorem V13_arg1 (c : Dev nD) : (V13 m c main_arg1 : main_arg1.ty.Contents (Elt F)) = wsOf m c :=
  (V14_of m (leaves m) c main_arg1 (by decide)).symm.trans (V14_main_arg1 m (leaves m) c)
theorem V14_v20 (c : Dev nD) : (V14 m (leaves m) c main_v20 : main_v20.ty.Contents (Elt F)) = res (xsOf m) (wsOf m c) c := by
  unfold V14
  exact (Function.update_self _ _ _).trans (leaves_v20 m c)

/-- The buffers the kernel touches. -/
def touched : Finset (DevRef τ sig) :=
  {Proc.devRef .tc main_arg0, Proc.devRef .tc main_arg1, Proc.devRef .tc main_v19, Proc.devRef .tc main_v20}

theorem touched_sub : touched ⊆ Pipeline.ucRefs τ sig := by
  intro b hb
  simp only [touched, Finset.mem_insert, Finset.mem_singleton] at hb
  rcases hb with rfl | rfl | rfl | rfl <;> exact Finset.mem_filter.mpr ⟨StableHlo.devRef_mem_tcRefs _, by decide⟩

theorem held_touched (c : Dev nD) (V : Valuation τ sig (Elt F)) :
    (StableHlo.held (c : Thread nD τ) (Pipeline.ucRefs τ sig) V : sProp 𝕄)
      = iprop((((c : Thread nD τ).loc main_arg0 ↦{fullShare} V main_arg0) ∗ ((c : Thread nD τ).loc main_arg1 ↦{fullShare} V main_arg1)
        ∗ ((c : Thread nD τ).loc main_v19 ↦{fullShare} V main_v19) ∗ ((c : Thread nD τ).loc main_v20 ↦{fullShare} V main_v20))
        ∗ StableHlo.held (c : Thread nD τ) (Pipeline.ucRefs τ sig \ touched) V) := by
  rw [StableHlo.held_sub_split (c : Thread nD τ) touched_sub V]
  refine congrArg₂ _ ?_ rfl
  unfold StableHlo.held
  rw [bigSep_eq_bigSepL_of_eq [Proc.devRef .tc main_arg0, Proc.devRef .tc main_arg1, Proc.devRef .tc main_v19, Proc.devRef .tc main_v20] (by decide) (by decide)]
  rfl

theorem held_rest (c : Dev nD) :
    (StableHlo.held (c : Thread nD τ) (Pipeline.ucRefs τ sig \ touched) (V14 m (leaves m) c) : sProp 𝕄)
      = StableHlo.held (c : Thread nD τ) (Pipeline.ucRefs τ sig \ touched) (V13 m c) := by
  unfold StableHlo.held
  refine bigSep_congr fun b hb => ?_
  have hb : b ≠ Proc.devRef .tc main_v20 := by
    rintro rfl
    exact (Finset.mem_sdiff.mp hb).2 (by decide)
  have h : V14 m (leaves m) c b = V13 m c b := by unfold V14; exact Function.update_of_ne hb _ _
  rw [h]

/-! ## The region -/

/-- What a device takes into the kernel of the launch's own things, the tallies apart. -/
def Box (c : Dev nD) : sProp 𝕄 := iprop((∃ K, invs (xsOf m) K) ∗ Funds (F := F) c ∗ Shut (F := F) c)

local notation "DD" => dats (xsOf m) (wsOf m) (osOf m)

theorem arrays_eq (c : Dev nD) (G : (w : Fin 2) → Buf (Elt F) ((spec0 w).arr.view.loc (c : Thread nD τ))) :
    ((DD 0 c).arrays G : sProp 𝕄)
      = iprop(((c : Thread nD τ).loc main_arg1 ↦{fullShare} G 0) ∗ ((c : Thread nD τ).loc main_v20 ↦{fullShare} G 1)) := by
  unfold Pipeline.Dat.arrays
  rw [bigSep_W0]
  refine congrArg₂ _ ?_ ?_
  · show ((c : Thread nD τ).loc main_arg1 ↦[(Memref.whole main_arg1).view.set]{fullShare} G 0) = _
    rw [View.set_whole]
  · show ((c : Thread nD τ).loc main_v20 ↦[(Memref.whole main_v20).view.set]{fullShare} G 1) = _
    rw [View.set_whole]

theorem pref_eq (c : Dev nD) :
    (Pipeline.prefHeld (pcfgs (F := F) 0).pre c (fun _ => fullShare) (adm c 0).1 : sProp 𝕄) = Tab (F := F) c := by
  unfold Pipeline.prefHeld
  exact bigSep_univ_eq_bigSepL [(0 : Fin 1)] (by decide) (by decide) _

theorem owed_pos (c : Dev nD) (n : ℕ) (g : GSem nD τ sig) (u : Unit) (h : 0 < owedAt c n g u) : u ∈ L g ∧ (0 : ℕ) < lv g u := by
  unfold owedAt at h
  split at h
  · rcases O₀_pos c g u h with ⟨p, rfl⟩ | ⟨p, rfl⟩
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

theorem lv_stage : ∀ (w : Fin 2) (s : Fin (spec0 w).nbuf), lvK (kind (.dma ((spec0 w).sem s))) = 0 := by decide

theorem scoped_eq (c : Dev nD) : (Pipeline.scopedRest (pcfgs (F := F) 0).spec c : sProp 𝕄) = Scratch (F := F) c :=
  scopedRest0_eq c

def reg : Pipeline.PerCore.RegionSeg (pcfgs (F := F)) adm DD () defs₀ 𝒱₀ L lv 0 where
  win := winFacts0.to₀
  block_pos := block_pos0
  stage_whole := stage_whole0
  K := Fin 34
  osem := osem
  ho := (by decide : Pipeline.OwnSemFacts spec0 osem)
  hbody c := (body_ob (xsOf m) (wsOf m) (osOf m) c).loose
  hwaits c := Pipeline.PerCore.cellsWaits_intro (Pipeline.pinD (pcfgs (F := F)) adm) DD () 0 c fun w s t =>
    MayOwe.of_cut (L := L) (lev := lv) 0 (fun p hp => by rw [Finset.mem_singleton.mp hp, L_tc]; exact Finset.mem_singleton_self _)
      (fun g u hg => (owed_pos c t.val g u hg).1)
      (fun p hp => by rw [Finset.mem_singleton.mp hp]; exact Nat.le_of_eq (lv_stage w s))
      (fun g u hg => (owed_pos c t.val g u hg).2)
  pre c := iprop(StableHlo.held (c : Thread nD τ) (Pipeline.ucRefs τ sig) (V13 m c) ∗ Box m c ∗ ∃ W, owes (c : Thread nD τ) (O₀ c) W)
  post c := iprop(StableHlo.held (c : Thread nD τ) (Pipeline.ucRefs τ sig) (V14 m (leaves m) c) ∗ semVal (barCell c) 0
    ∗ ∃ W, owes (c : Thread nD τ) (0 : CellTallies nD τ sig Unit) W)
  X c := iprop((∃ K, invs (xsOf m) K) ∗ Given (xsOf m) c)
  Y c := iprop(semVal (barCell c) 0 ∗ Tab (F := F) c ∗ (xM.view.loc (c : Thread nD τ) ↦{fullShare} xsOf m c))
  Z c := StableHlo.held (c : Thread nD τ) (Pipeline.ucRefs τ sig \ touched) (V13 m c)
  hentry c := by
    rw [held_touched, V13_arg0, V13_arg1, table_eq, arrays_eq, pref_eq]
    unfold Box Given
    iintro ⟨⟨⟨⟨Hx, Hw, Ht, Ho⟩, Hz⟩, ⟨⟨%K, #HI⟩, HF, HS⟩, HO⟩, Hs, -⟩
    imod (open_cells (xsOf m) K c) $$ [HS Hs] with HL
    · isplitr; · iexact HI
      isplitl [HS] <;> iassumption
    imodintro
    isplitl [Hw Ho]
    · isplitl [Hw]; · iexact Hw
      iexact Ho
    isplitl [Ht]; · iexact Ht
    isplitl [HO]; · iapply (owes_intro (xsOf m) (wsOf m) (osOf m) c 0); iexact HO
    isplitr [Hz]
    · isplitr; · iexists K; iexact HI
      isplitl [HF]; · iexact HF
      isplitl [HL]; · iexact HL
      iexact Hx
    · iexact Hz
  hin c := by
    rw [pref_eq, scoped_eq]
    show _ ⊢ Between (xsOf m) c 0
    unfold Between
    rw [if_neg (by decide), if_pos rfl]
    iintro ⟨⟨HI, HG⟩, HT, HS⟩
    isplitl [HI]; · iexact HI
    isplitl [HT]; · iexact HT
    isplitl [HG] <;> iassumption
  hout c := by
    rw [scoped_eq]
    show Between (xsOf m) c 16 ⊢ _
    unfold Between
    rw [if_pos rfl]
    iintro ⟨Hb, HT, Hx, Hs, HS⟩
    isplitl [Hb HT Hx]
    · isplitl [Hb]; · iexact Hb
      isplitl [HT] <;> iassumption
    isplitl [Hs] <;> iassumption
  hexit c := by
    rw [held_touched, held_rest, V14_main_arg0, V14_main_arg1, V14_of m (leaves m) c main_v19 (by decide), V14_v20, table_eq, arrays_eq,
      show (DD 0 c).arrAt (1 : Fin 2) (Pipeline.pinD (pcfgs (F := F)) adm c 0).N = res (xsOf m) (wsOf m c) c from array_o (xsOf m) (wsOf m) (osOf m) c,
      show (DD 0 c).arrAt (0 : Fin 2) (Pipeline.pinD (pcfgs (F := F)) adm c 0).N = wsOf m c from Pipeline.Dat.arrAt_in (DD 0 c) (0 : Fin 2) rfl _]
    iintro ⟨⟨Hw, Ho⟩, HO, ⟨Hb, HT, Hx⟩, Hz⟩
    ihave HO := (owes_elim (xsOf m) (wsOf m) (osOf m) c (Fin.last _)) $$ HO
    imodintro
    isplitr [Hb HO]
    · isplitr [Hz]
      · isplitl [Hx]; · iexact Hx
        isplitl [Hw]; · iexact Hw
        isplitl [HT]; · iexact HT
        iexact Ho
      · iexact Hz
    · isplitl [Hb]; · iexact Hb
      iexact HO

end Cert.KernelIdeal.A2A

end
-- ==== Proof.Launch.lean ====
/-
  The launch: the tokens dealt to the devices, the units the launch credits, and the run of the whole program from its first
  host operation to its last, with what it leaves in the memory and at the semaphores.
-/
module

public import proofs.«01_k».proof.Proof.Region

@[expose] public section

set_option maxRecDepth 16384

noncomputable section

namespace Cert.KernelIdeal.A2A

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The tokens, by payer -/

/-- The payer's token of kind `k` at index `d`: the signal to `d`, the departure towards `d`, the arrival at `d`, and the two
    rounds of the two staging slots of the input (the indices `0..3`; the others are not used). -/
def tokAt (c : Dev nD) (k : Fin 4) (d : Dev nD) : GSem nD τ sig × ℕ × Dev nD :=
  match k with
  | 0 => (barCell d, 0, c)
  | 1 => (sendCell c d, 0, c)
  | 2 => (recvCell d c, 0, c)
  | 3 => (xCell c ⟨d.val % 2, Nat.mod_lt _ (by decide)⟩, d.val / 2, c)

/-- The index a token came from. -/
def tokIx (x : GSem nD τ sig × ℕ × Dev nD) : Dev nD × Fin 4 × Dev nD :=
  match kind x.1.2 with
  | .bar => (x.2.2, 0, x.1.1.1)
  | .send d => (x.2.2, 1, d)
  | .recv _ => (x.2.2, 2, x.1.1.1)
  | .x s => (x.2.2, 3, ⟨(2 * x.2.1 + s.val) % 16, Nat.mod_lt _ (by decide)⟩)
  | .none => (x.2.2, 0, x.1.1.1)

theorem tokIx_tokAt (c : Dev nD) (k : Fin 4) (d : Dev nD) : tokIx (tokAt c k d) = (c, k, d) := by
  match k with
  | 0 => rfl
  | 1 => show tokIx (sendCell c d, 0, c) = _; unfold tokIx; rw [kind_send]
  | 2 => show tokIx (recvCell d c, 0, c) = _; unfold tokIx; rw [kind_recv]
  | 3 =>
    show tokIx (xCell c _, d.val / 2, c) = _
    unfold tokIx
    rw [kind_x]
    refine Prod.ext rfl (Prod.ext rfl (Fin.ext ?_))
    show (2 * (d.val / 2) + d.val % 2) % 16 = d.val
    have h : d.val < 16 := d.isLt
    omega

def tokE : Dev nD × Fin 4 × Dev nD ↪ GSem nD τ sig × ℕ × Dev nD :=
  ⟨fun x => tokAt x.1 x.2.1 x.2.2, Function.LeftInverse.injective (g := tokIx) fun x => tokIx_tokAt x.1 x.2.1 x.2.2⟩

def toks : Finset (GSem nD τ sig × ℕ × Dev nD) := Finset.univ.map tokE

theorem toks_eq :
    (bigSep toks (fun x => dutyTok ER x.1 x.2.1 x.2.2) : sProp 𝕄)
      = bigSep Finset.univ fun c : Dev nD => bigSep Finset.univ fun k : Fin 4 => bigSep Finset.univ fun d : Dev nD =>
          dutyTok ER (tokAt c k d).1 (tokAt c k d).2.1 (tokAt c k d).2.2 := by
  unfold toks
  rw [bigSep_map, bigSep_univ_prod]
  exact bigSep_congr fun c _ => bigSep_univ_prod _

/-- A device's tokens, sorted. -/
def Toks (c : Dev nD) : sProp 𝕄 :=
  iprop((bigSep (Finset.univ.erase c) fun p => dutyTok ER (barCell p) 0 c)
    ∗ (bigSep (Finset.univ.erase c) fun d => iprop(dutyTok ER (sendCell c d) 0 c ∗ dutyTok ER (recvCell d c) 0 c))
    ∗ (bigSep Finset.univ fun s : Fin 2 => iprop(dutyTok ER (xCell c s) 0 c ∗ dutyTok ER (xCell c s) 1 c)))

theorem bigSep_cut {I : Type} [DecidableEq I] {s t : Finset I} (h : t ⊆ s) (Φ : I → sProp 𝕄) : bigSep s Φ ⊢ bigSep t Φ := by
  rw [show bigSep s Φ = iprop(bigSep t Φ ∗ bigSep (s \ t) Φ) from bigSep_sdiff_split h]
  iintro ⟨H, -⟩
  iexact H

theorem toks_sort (c : Dev nD) :
    (bigSep Finset.univ fun k : Fin 4 => bigSep Finset.univ fun d : Dev nD =>
        (dutyTok ER (tokAt c k d).1 (tokAt c k d).2.1 (tokAt c k d).2.2 : sProp 𝕄)) ⊢ Toks c := by
  rw [bigSep_univ_eq_bigSepL [(0 : Fin 4), 1, 2, 3] (by decide) (by decide)]
  show iprop((bigSep Finset.univ fun p : Dev nD => dutyTok ER (barCell p) 0 c) ∗ (bigSep Finset.univ fun d : Dev nD => dutyTok ER (sendCell c d) 0 c)
    ∗ (bigSep Finset.univ fun d : Dev nD => dutyTok ER (recvCell d c) 0 c)
    ∗ bigSep Finset.univ fun d : Dev nD => dutyTok ER (tokAt c 3 d).1 (tokAt c 3 d).2.1 (tokAt c 3 d).2.2) ⊢ _
  have hx : (bigSep Finset.univ fun d : Dev nD => (dutyTok ER (tokAt c 3 d).1 (tokAt c 3 d).2.1 (tokAt c 3 d).2.2 : sProp 𝕄))
      ⊢ bigSep Finset.univ fun s : Fin 2 => iprop(dutyTok ER (xCell c s) 0 c ∗ dutyTok ER (xCell c s) 1 c) := by
    refine (bigSep_cut (t := {0, 1, 2, 3}) (Finset.subset_univ _) _).trans ?_
    rw [bigSep_eq_bigSepL_of_eq [(0 : Dev nD), 1, 2, 3] (by decide) (by decide), bigSep_fin_two]
    show iprop(dutyTok ER (xCell c 0) 0 c ∗ dutyTok ER (xCell c 1) 0 c ∗ dutyTok ER (xCell c 0) 1 c ∗ dutyTok ER (xCell c 1) 1 c)
      ⊢ iprop((dutyTok ER (xCell c 0) 0 c ∗ dutyTok ER (xCell c 0) 1 c) ∗ dutyTok ER (xCell c 1) 0 c ∗ dutyTok ER (xCell c 1) 1 c)
    iintro ⟨H1, H2, H3, H4⟩
    isplitl [H1 H3]
    · isplitl [H1] <;> iassumption
    isplitl [H2] <;> iassumption
  unfold Toks
  iintro ⟨Hb, Hs, Hr, Hx⟩
  isplitl [Hb]
  · iapply (bigSep_cut (Finset.erase_subset c Finset.univ) fun p : Dev nD => dutyTok ER (barCell p) 0 c); iexact Hb
  isplitl [Hs Hr]
  · rw [bigSep_sep']
    isplitl [Hs]
    · iapply (bigSep_cut (Finset.erase_subset c Finset.univ) fun d : Dev nD => dutyTok ER (sendCell c d) 0 c); iexact Hs
    · iapply (bigSep_cut (Finset.erase_subset c Finset.univ) fun d : Dev nD => dutyTok ER (recvCell d c) 0 c); iexact Hr
  iapply hx; iexact Hx

/-! ## The units credited at launch -/

theorem barCell_eq {c p : Dev nD} (h : barCell c = barCell p) : c = p := congrArg (fun g : GSem nD τ sig => g.1.1) h
theorem recvCell_eq {c p j i : Dev nD} (h : recvCell c j = recvCell p i) : c = p ∧ j = i := by
  refine ⟨congrArg (fun g : GSem nD τ sig => g.1.1) h, ?_⟩
  have hk := congrArg (fun g : GSem nD τ sig => kind g.2) h
  dsimp only at hk
  rw [kind_recv, kind_recv] at hk
  exact Kind.recv.inj hk
theorem bar_ne_recv (c p j : Dev nD) : barCell c ≠ recvCell p j := fun h => by
  have hk := congrArg (fun g : GSem nD τ sig => kind g.2) h
  dsimp only at hk
  rw [kind_recv, kind_bar] at hk
  exact Kind.noConfusion hk

theorem owed_bar (d c : Dev nD) : O₀ d (barCell c) () = if c ∈ Finset.univ.erase d then 1 else 0 := by
  have h1 : owedR d (Finset.univ.erase d) (barCell c) () = 0 :=
    Nat.eq_zero_of_not_pos fun h => by obtain ⟨p, hp⟩ := owedR_pos d _ _ _ h; exact bar_ne_recv c p d hp
  have h2 : owedB (Finset.univ.erase d) (barCell c) () = if c ∈ Finset.univ.erase d then 1 else 0 := by
    rw [owedB, Finset.sum_apply, Finsupp.finset_sum_apply, Finset.sum_congr rfl fun p _ => show _ = if c = p then 1 else 0 by
      rw [tallyAt_apply]
      by_cases h : c = p
      · subst h; rw [if_pos ⟨rfl, rfl⟩, if_pos rfl]
      · rw [if_neg fun e => h (barCell_eq e.1), if_neg h]]
    exact Finset.sum_ite_eq (Finset.univ.erase d) c fun _ => 1
  show owedR d (Finset.univ.erase d) (barCell c) () + owedB (Finset.univ.erase d) (barCell c) () = _
  rw [h1, h2, Nat.zero_add]

theorem owed_recv (d c j : Dev nD) (hj : j ∈ Finset.univ.erase c) : O₀ d (recvCell c j) () = if d = j then NB else 0 := by
  have h2 : owedB (Finset.univ.erase d) (recvCell c j) () = 0 :=
    Nat.eq_zero_of_not_pos fun h => by obtain ⟨p, hp⟩ := owedB_pos _ _ _ h; exact bar_ne_recv p c j hp.symm
  have h1 : owedR d (Finset.univ.erase d) (recvCell c j) () = if d = j then NB else 0 := by
    rw [owedR, Finset.sum_apply, Finsupp.finset_sum_apply, Finset.sum_congr rfl fun p _ => show _ = if c = p then (if d = j then NB else 0) else 0 by
      rw [tallyAt_apply]
      by_cases h : c = p
      · subst h
        rw [if_pos rfl]
        by_cases e : d = j
        · subst e; rw [if_pos ⟨rfl, rfl⟩, if_pos rfl]
        · rw [if_neg fun x => e (recvCell_eq x.1).2.symm, if_neg e]
      · rw [if_neg fun e => h (recvCell_eq e.1).1, if_neg h]]
    rw [Finset.sum_ite_eq (Finset.univ.erase d) c fun _ => if d = j then NB else 0]
    by_cases e : d = j
    · subst e
      rw [if_pos (Finset.mem_erase.mpr ⟨(Finset.ne_of_mem_erase hj).symm, Finset.mem_univ _⟩)]
    · rw [if_neg e]; exact ite_self 0
  show owedR d (Finset.univ.erase d) (recvCell c j) () + owedB (Finset.univ.erase d) (recvCell c j) () = _
  rw [h1, h2, Nat.add_zero]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c j : Dev nD) (hj : j ∈ Finset.univ.erase c) :
    tallyOn (recvCell c j) (launchCredit (Pipeline.owing O₀) 0 (recvCell c j)) = (tallyAt (recvCell c j) () NB : CellTallies nD τ sig Unit) := by
  unfold tallyAt; refine congrArg _ (Finsupp.ext fun u => ?_); cases u
  rw [Pipeline.launchCredit_owing, Finsupp.single_eq_same, Finset.sum_congr rfl fun d _ => owed_recv d c j hj, Finset.sum_ite_eq' Finset.univ j fun _ => NB,
    if_pos (Finset.mem_univ _)]

def recvS : Dev nD ↪ SemLoc sig := ⟨fun j => .dma (recvSem j), fun i j h => by
  have hk := congrArg kind h
  dsimp only at hk
  rw [kind_recv, kind_recv] at hk
  exact Kind.recv.inj hk⟩

theorem recvS_sub (c : Dev nD) : (Finset.univ.erase c).map recvS ⊆ Finset.univ.erase (SemLoc.reg barrier0) := by
  intro x hx
  obtain ⟨j, -, rfl⟩ := Finset.mem_map.mp hx
  exact Finset.mem_erase.mpr ⟨fun h => bar_ne_recv c c j (congrArg (Prod.mk (c : Thread nD τ)) h.symm), Finset.mem_univ _⟩

/-- The credits a device takes. -/
def Creds (c : Dev nD) : sProp 𝕄 :=
  iprop(cred (tallyAt (barCell c) () 15) ∗ bigSep (Finset.univ.erase c) fun j => cred (tallyAt (recvCell c j) () NB))

theorem creds (c : Dev nD) : (Pipeline.launchCred O₀ c : sProp 𝕄) ⊢ Creds c := by
  unfold Pipeline.launchCred Creds
  rw [bigSep_univ_at _ (SemLoc.reg barrier0), launch_bar]
  refine sep_mono_right ((bigSep_cut (recvS_sub c) _).trans ?_)
  rw [bigSep_map]
  exact Entails.of_eq (bigSep_congr fun j hj => congrArg cred (launch_recv c j hj))

/-! ## The first state of every device -/

theorem disjoint_cells : Disjoint bars scs := by
  rw [Finset.disjoint_left]
  intro g hg hs
  obtain ⟨c, -, rfl⟩ := Finset.mem_map.mp hg
  obtain ⟨⟨d, k⟩, -, h⟩ := Finset.mem_map.mp hs
  have h : osem k = SemLoc.reg barrier0 := congrArg Prod.snd h
  revert h; clear * -; revert k; decide

/-- The launch's element: the pipeline's own, and the protocol's. -/
def u₀ : UU :=
  (initOf (Pipeline.PerCore.cells (Pipeline.pinD (pcfgs (F := F)) adm) phinj) (Pipeline.PerCore.launchToks (Pipeline.pinD (pcfgs (F := F)) adm) phinj),
    launchOf bars scs toks)

/-- A proposition at one device, and nothing at the others. -/
def atDev (c₀ : Dev nD) (X : sProp 𝕄) (c : Dev nD) : sProp 𝕄 := if c = c₀ then X else iprop(emp)

theorem atDev_all (c₀ : Dev nD) (X : sProp 𝕄) : bigSep Finset.univ (atDev c₀ X) = X := by
  rw [bigSep_univ_at _ c₀, bigSep_congr (s := Finset.univ.erase c₀) (Φ := atDev c₀ X) (Ψ := fun _ => BI.emp) fun c hc => if_neg (Finset.ne_of_mem_erase hc), BI.bigSep_emp_const]
  unfold atDev
  rw [if_pos rfl]
  exact BI.equiv_iff.mp sep_emp

def GG : Dev nD → sProp 𝕄 := atDev 0 (BI.own (ER (launchOf bars scs toks)))

/-- What rides beside the buffers until the kernel is entered. -/
def Ride (_ : Fin 2) (c : Dev nD) : sProp 𝕄 := iprop(Box m c ∗ ∃ W, owes (c : Thread nD τ) (O₀ c) W)

/-- A device's first state, and its last. -/
def First₀ (c : Dev nD) : sProp 𝕄 := iprop(StableHlo.held (c : Thread nD τ) (Pipeline.ucRefs τ sig) (V0 m c) ∗ Ride m 0 c)
def Last₀ (c : Dev nD) : sProp 𝕄 :=
  iprop(StableHlo.held (c : Thread nD τ) (Pipeline.ucRefs τ sig) (V14 m (leaves m) c) ∗ semVal (barCell c) 0)

/-- What every device knows. -/
def Known (κ : GSem nD τ sig → ℕ) : sProp 𝕄 := iprop(invs (xsOf m) κ ∗ bigSep bars fun g => reached ER g 0)

instance known_persistent (κ : GSem nD τ sig → ℕ) : BI.Persistent (Known m κ : sProp 𝕄) := by unfold Known; infer_instance

/-- What it takes of its own. -/
def Own (c : Dev nD) : sProp 𝕄 :=
  iprop((atPos ER (barCell c) 0 ∅ 0 ∗ Shut (F := F) c ∗ Toks (F := F) c)
    ∗ StableHlo.held (c : Thread nD τ) (Pipeline.ucRefs τ sig) (V0 m c) ∗ Creds (F := F) c ∗ owes (c : Thread nD τ) (O₀ c) ∅)

theorem known_reached (κ : GSem nD τ sig → ℕ) (c : Dev nD) :
    iprop(Known m κ ∗ bigSep (Finset.univ.erase c) fun p : Dev nD => (dutyTok ER (barCell p) 0 c : sProp 𝕄))
      ⊢ bigSep (Finset.univ.erase c) fun p : Dev nD => iprop(dutyTok ER (barCell p) 0 c ∗ reached ER (barCell p) 0) :=
  bigSep_with_persistent fun p _ => by
    have hp : (bigSep bars fun g => (reached ER g 0 : sProp 𝕄)) ⊢ reached ER (barCell p) 0 :=
      bigSep_elim (Φ := fun g => (reached ER g 0 : sProp 𝕄)) (Finset.mem_map_of_mem barE (Finset.mem_univ p))
    unfold Known
    iintro ⟨⟨-, HR⟩, HT⟩
    isplitl [HT]; · iexact HT
    iapply hp; iexact HR

theorem first_intro (κ : GSem nD τ sig → ℕ) (c : Dev nD) : iprop(Known m κ ∗ Own m c) ⊢ First₀ m c := by
  unfold Own First₀ Ride Box Funds Toks Creds
  iintro ⟨#HK, ⟨Hat, HS, Hb, Hd, Hx⟩, Hh, ⟨Hc, Hr⟩, HO⟩
  isplitl [Hh]; · iexact Hh
  isplitr [HO]
  · isplitr
    · iexists κ
      unfold Known
      icases HK with ⟨HI, -⟩
      iexact HI
    isplitr [HS]
    · isplitl [Hb]
      · iapply (known_reached m κ c)
        isplitr; · iexact HK
        iexact Hb
      isplitl [Hc]; · iexact Hc
      isplitl [Hat]; · iexact Hat
      isplitl [Hd]; · iexact Hd
      isplitl [Hx] <;> iassumption
    · iexact HS
  · iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem unpair {I : Type} [Fintype I] (Φ Ψ : I → sProp 𝕄) :
    (bigSep Finset.univ fun i => iprop(Φ i ∗ Ψ i)) ⊢ iprop(bigSep Finset.univ Φ ∗ bigSep Finset.univ Ψ) := Entails.of_eq (bigSep_sep' _ Φ Ψ)
theorem pair {I : Type} [Fintype I] (Φ Ψ : I → sProp 𝕄) :
    iprop(bigSep Finset.univ Φ ∗ bigSep Finset.univ Ψ) ⊢ (bigSep Finset.univ fun i => iprop(Φ i ∗ Ψ i)) := Entails.of_eq (bigSep_sep' _ Φ Ψ).symm

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ GG (F := F) c)) ∗ levAts L lv)
      ⊢ (|={Set.univ}=> bigSep Finset.univ (First₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ GG (F := F) c)
      ⊢ (iprop((StableHlo.held (c : Thread nD τ) (Pipeline.ucRefs τ sig) (V0 m c) ∗ Creds (F := F) c ∗ owes (c : Thread nD τ) (O₀ c) ∅)
          ∗ (semVal (barCell c) 0 ∗ GG (F := F) c)) : sProp 𝕄) := by
    rw [← Pipeline.unscopedBufs_held (Ix := Unit) (Name := ℕ) (U := UU) (Lvl := ℕ) c (V0 m c), unscopedSems0_eq]
    show iprop(unscopedBufs c (fun b => m ((c : Thread nD τ).loc b)) ∗ semVal (barCell c) 0
        ∗ owes (c : Thread nD τ) (O₀ c) ∅ ∗ Pipeline.launchCred O₀ c ∗ prngReg c (ρ c) ∗ GG (F := F) c)
      ⊢ iprop((unscopedBufs c (fun b => m ((c : Thread nD τ).loc b)) ∗ Creds (F := F) c ∗ owes (c : Thread nD τ) (O₀ c) ∅)
          ∗ (semVal (barCell c) 0 ∗ GG (F := F) c))
    iintro ⟨Hh, Hus, HO, Hcr, -, HG⟩
    ihave Hc := (creds (F := F) c) $$ Hcr
    isplitl [Hh Hc HO]
    · isplitl [Hh]; · iexact Hh
      isplitl [Hc] <;> iassumption
    isplitl [Hus] <;> iassumption
  have hv : bigSep Finset.univ (fun c : Dev nD => (semVal (barCell c) 0 : sProp 𝕄)) ⊢ bigSep bars (fun g => (semVal g 0 : sProp 𝕄)) :=
    Entails.of_eq (bigSep_map (s := Finset.univ) barE (Φ := fun g : GSem nD τ sig => (semVal g 0 : sProp 𝕄))).symm
  have hat : bigSep bars (fun g => (atPos ER g 0 ∅ 0 : sProp 𝕄)) ⊢ bigSep Finset.univ (fun c : Dev nD => (atPos ER (barCell c) 0 ∅ 0 : sProp 𝕄)) :=
    Entails.of_eq (bigSep_map (s := Finset.univ) barE (Φ := fun g : GSem nD τ sig => (atPos ER g 0 ∅ 0 : sProp 𝕄)))
  have hopen : bigSep scs (fun g => (openTok ER g : sProp 𝕄)) ⊢ bigSep Finset.univ (Shut (F := F)) :=
    Entails.of_eq (by
      unfold scs
      rw [bigSep_map, bigSep_univ_prod]
      rfl)
  have htok : bigSep toks (fun x => (dutyTok ER x.1 x.2.1 x.2.2 : sProp 𝕄)) ⊢ bigSep Finset.univ (Toks (F := F)) := by
    rw [toks_eq]
    exact bigSep_mono fun c _ => toks_sort c
  iintro ⟨H, #HL⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ GG (F := F) c))
      ⊢ (bigSep Finset.univ fun c : Dev nD => iprop((StableHlo.held (c : Thread nD τ) (Pipeline.ucRefs τ sig) (V0 m c) ∗ Creds (F := F) c
          ∗ owes (c : Thread nD τ) (O₀ c) ∅) ∗ (semVal (barCell c) 0 ∗ GG (F := F) c)) : sProp 𝕄) from bigSep_mono fun c _ => hcore c) $$ H
  ihave H2 := (unpair _ _) $$ H'; icases H2 with ⟨HB, H3⟩
  ihave H4 := (unpair _ _) $$ H3; icases H4 with ⟨Hv, HG⟩
  ihave Hu := (show bigSep Finset.univ (GG (F := F)) ⊢ BI.own (ER (launchOf bars scs toks)) from Entails.of_eq (atDev_all (F := F) 0 _)) $$ HG
  imod (Rounds.fund_launch ER (sched (xsOf m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := Known m κ) (Φ := Own m) fun c _ => first_intro m κ c)
  isplitr
  · unfold Known invs
    isplitr
    · isplitr; · iexact Hinv
      iexact HL
    iexact Hr
  unfold Own
  iapply (pair _ _)
  isplitr [HB]
  · iapply (pair _ _); isplitl [Hat]; · iapply hat $$ Hat
    iapply (pair _ _); isplitl [Hopen]; · iapply hopen $$ Hopen
    iapply htok $$ Htok
  · iexact HB

/-! ## The run -/

theorem unscoped_eq : ∀ sm : SemLoc sig, sm.isScoped .tc = false → sm = .reg barrier0 := by decide

/-- The program's segments on a device: the thirteen stretches of host operations, then the kernel. -/
abbrev parts (c : Dev nD) : List (Pipeline.PerCore.Seg (pcfgs (F := F)) adm (dats (xsOf m) (wsOf m) (osOf m)) () defs₀ 𝒱₀ L lv) :=
  [.host (seg0 m 𝒱₀ L lv (Ride m) c), .host (seg1 m 𝒱₀ L lv (Ride m)), .host (seg2 m 𝒱₀ L lv (Ride m)), .host (seg3 m 𝒱₀ L lv (Ride m)),
    .host (seg4 m 𝒱₀ L lv (Ride m)), .host (seg5 m 𝒱₀ L lv (Ride m)), .host (seg6 m 𝒱₀ L lv (Ride m)), .host (seg7 m 𝒱₀ L lv (Ride m)),
    .host (seg8 m 𝒱₀ L lv (Ride m)), .host (seg9 m 𝒱₀ L lv (Ride m)), .host (seg10 m 𝒱₀ L lv (Ride m)), .host (seg11 m 𝒱₀ L lv (Ride m)),
    .host (seg12 m 𝒱₀ L lv (Ride m)), .region (reg m)]

theorem last_out (c : Dev nD) :
    (reg m).post c ⊢ iprop(Last₀ m c ∗ ∃ W, owes (c : Thread nD τ) (0 : CellTallies nD τ sig Unit) W) := by
  show iprop(StableHlo.held (c : Thread nD τ) (Pipeline.ucRefs τ sig) (V14 m (leaves m) c) ∗ semVal (barCell c) 0
    ∗ ∃ W, owes (c : Thread nD τ) (0 : CellTallies nD τ sig Unit) W) ⊢ _
  unfold Last₀
  iintro ⟨Hh, Hb, HO⟩
  isplitr [HO]
  · isplitl [Hh] <;> iassumption
  · iexact HO

/-- What the memory holds at the end, on one device: the arguments as they were, and the result. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v20) = res (xsOf m) (wsOf m c) c)

theorem last_read (c : Dev nD) (s' : Phys nD τ sig (Elt F)) :
    iprop(Last₀ m c ∗ SI s') ⊢ (|={Set.univ}=> iprop(⌜Ends m c s'.mem ∧ s'.mem.sem (barCell c) = 0⌝ ∗ SI s') : sProp 𝕄) := by
  unfold Last₀ StableHlo.held
  iintro ⟨⟨Hh, Hb⟩, HSI⟩
  icombine HSI Hb gives %hb
  ihave Hr := (pointsTo_read_all (Pipeline.ucRefs τ sig) (fun b => ((c : Thread nD τ).1, b)) (V14 m (leaves m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V14_main_arg0 m (leaves m) c),
      (h (Proc.devRef .tc main_arg1) (Finset.mem_filter.mpr ⟨StableHlo.devRef_mem_tcRefs main_arg1, by decide⟩)).trans (V14_main_arg1 m (leaves m) c),
      (h (Proc.devRef .tc main_v20) (Finset.mem_filter.mpr ⟨StableHlo.devRef_mem_tcRefs main_v20, by decide⟩)).trans (V14_v20 m c)⟩,
      by simpa using hb⟩
  · iexact HSI

set_option backward.isDefEq.respectTransparency.types false in
/-- Every run of the program ends, without a fault, with the arguments unchanged, the result array holding `res`, and every
    semaphore of the machine at zero. -/
theorem run_main : θ_run defs (onTc (τ := τ) (main (F := F))) ⟨m, fun _ => 0, ρ⟩ (fun r => (∀ c : Dev nD, Ends m c r.2) ∧ r.2.sem = fun _ => 0) :=
  Pipeline.PerCore.θ_run_regions_kit_sems (pcfgs (F := F)) adm (dats (xsOf m) (wsOf m) (osOf m)) () phinj EP defs₀ 𝒱₀ L lv m ρ main (parts m)
    (fun c Q => by
      rewrite [main_chain c, Pipeline.PerCore.Seg.run_eq_chain,
        show (parts m c).map Pipeline.PerCore.Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12,
          Prog.lift (.customCall (Pipeline.entry 0) ())] from rfl]
      dsimp (config := { failIfUnchanged := false }) only
      exact .rfl)
    (fun c => by simp only [parts, Pipeline.PerCore.Seg.pipes_host, Pipeline.PerCore.Seg.pipes_region, Pipeline.PerCore.Seg.pipes_nil]; decide)
    (O₀ := O₀) (hL := L_of_ne) (G := GG (F := F)) (u₀ := u₀ (F := F))
    (hu₀ := by
      unfold u₀ GG
      iintro Hu
      ihave H := (ownU_pair _ _) $$ Hu
      icases H with ⟨HP, HX⟩
      imodintro
      isplitl [HP]; · iexact HP
      rw [atDev_all]; iexact HX)
    (T₀ := First₀ m) (Tₙ := Last₀ m)
    (hch := fun c => ⟨.rfl, .rfl, .rfl, .rfl, .rfl, .rfl, .rfl, .rfl, .rfl, .rfl, .rfl, .rfl, .rfl, .rfl, last_out m c⟩)
    (hinit := init m ρ)
    (QY := fun c s => Ends m c s ∧ s.sem (barCell c) = 0)
    (hfin := last_read m)
    (hQ := fun s h hs => ⟨fun c => (h c).1, sem_eq_zero hs fun c sm hsm => by
      obtain rfl := unscoped_eq sm hsm
      exact (h c).2⟩)

end Cert.KernelIdeal.A2A

end
-- ==== Proof.Frames.lean ====
/-
  The kernel's program at bit-level floats is the program the run was proved of, text for text: its functions table and its
  main function are equal, so the run carries over.
-/
module

public import proofs.«01_k».proof.Defs
public import proofs.«01_k».proof.Proof.Gen.Kernel
public import proofs.«01_k».proof.Proof.Gen.Kernel.Launch
public import proofs.«01_k».proof.Proof.Launch

@[expose] public section

set_option maxRecDepth 16384

noncomputable section

namespace Cert.KernelIdeal.A2A

open Idealize.ShloMosaic Idealize.SL.Sem
open Idealize.ShloMosaic.TcCoe
open Cert.KernelIdeal

variable {F : FTy → Type} [FloatOps F]

theorem bodies_eq : (Cert.Kernel.defs₀ (F := F) : Defs Cert.Kernel.nD Cert.Kernel.τ Cert.Kernel.sig (Elt F) Cert.Kernel.Λ₀) = Cert.KernelIdeal.defs₀ (F := F) := by
  refine congrArg Defs.onTc (funext fun l => funext fun a => ?_)
  match l, a with
  | 0, (t, s) => exact rfl

theorem defs_eq :
    (Cert.Kernel.defs (F := F) : Defs Cert.Kernel.nD Cert.Kernel.τ Cert.Kernel.sig (Elt F) (Pipeline.Sig Cert.Kernel.Λ₀ (Fin 1) fun p => (Cert.Kernel.pcfgs (F := F) p).Adm))
      = Cert.KernelIdeal.defs (F := F) :=
  congrArg (Pipeline.defs Cert.KernelIdeal.pcfgs) bodies_eq

set_option maxHeartbeats 1000000 in
theorem main_eq (c : Dev Cert.Kernel.nD) :
    (Cert.Kernel.main (F := F) c : Prog (TpuEff Cert.Kernel.nD Cert.Kernel.τ Cert.Kernel.sig (Elt F) (Pipeline.Sig Cert.Kernel.Λ₀ (Fin 1) fun p => (Cert.Kernel.pcfgs (F := F) p).Adm) .tc) PUnit)
      = Cert.KernelIdeal.main (F := F) c := by
  refine (Cert.Kernel.Gen.main_chain (F := F) c).trans (Eq.trans ?_ (Cert.KernelIdeal.Gen.main_chain (F := F) c).symm)
  refine congrArg Pipeline.chain (congrArg₂ List.cons ?_ (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ (congrArg₂ List.cons ?_ (congrArg₂ List.cons ?_
      (congrArg₂ List.cons ?_ (congrArg₂ List.cons ?_ ?_)))))))))))))
  all_goals first
    | exact congrArg StableHlo.seq rfl
    | exact rfl

/-- The run of one program is the run of an equal one. -/
theorem carry {D D' : Defs nD τ sig (Elt F) (Pipeline.Sig Cert.KernelIdeal.Λ₀ (Fin 1) fun p => (Cert.KernelIdeal.pcfgs (F := F) p).Adm)}
    {M M' : Dev nD → Prog (TpuEff nD τ sig (Elt F) (Pipeline.Sig Cert.KernelIdeal.Λ₀ (Fin 1) fun p => (Cert.KernelIdeal.pcfgs (F := F) p).Adm) .tc) PUnit}
    (hD : D' = D) (hM : ∀ c, M' c = M c) (s : MemSt nD τ sig (Elt F)) {Q : PUnit × MemSt nD τ sig (Elt F) → Prop}
    (h : θ_run D (onTc (τ := τ) M) s Q) : θ_run D' (onTc (τ := τ) M') s Q := by
  obtain rfl := hD
  obtain rfl : M' = M := funext hM
  exact h

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_bits : Cert.quiescent_Kernel := fun m ρ _ =>
  carry (F := Bits) defs_eq main_eq ⟨m, fun _ => 0, ρ⟩
    ((θ_run Cert.KernelIdeal.defs _ _).mono (fun _ h => ⟨fun c => ⟨(h.1 c).1, (h.1 c).2.1⟩, h.2⟩) (run_main (F := Bits) m ρ))

end Cert.KernelIdeal.A2A

end
-- ==== Proof.Value.lean ====
/-
  The kernel's result over the extended reals: what a device leaves is its row block of the whole product, each entry
  through the activation, which is what the reference without a clip has there.
-/
module

public import proofs.«01_k».proof.Proof.Frames
public import proofs.«01_k».proof.Proof.Gen.SiluIdeal
public import proofs.«01_k».proof.Proof.Gen.SiluIdeal.Run
public import Idealize.ShloMosaic.Lib.Layout
public import Idealize.ShloMosaic.Lib.MatmulPlain
public import Idealize.ShloMosaic.Lib.IdealHost

@[expose] public section

set_option maxRecDepth 16384

noncomputable section

namespace Cert.KernelIdeal.A2A

open Idealize.ShloMosaic
open Idealize.ShloMosaic.TcCoe
open Idealize.ShloMosaic.ValueIdx
open Idealize.SL.Sem
open Cert.KernelIdeal Cert.KernelIdeal.Gen
open scoped BigOperators

/-! ## Two constants -/

theorem bits_zero : Ideal.ofBits .f32 0x00000000#32 = 0 := by simp [Ideal.ofBits, Ideal.ieee]

theorem bits_one : Ideal.ofBits .f32 0x3F800000#32 = 1 := by
  simp [Ideal.ofBits, Ideal.ieee, -EReal.coe_mul]
  norm_num

/-! ## The activation -/

theorem exp_nonneg (y : EReal) : 0 ≤ Ideal.exp y := by
  induction y with
  | bot => exact le_refl _
  | top => exact le_top
  | coe r => exact EReal.coe_nonneg.mpr (Real.exp_pos r).le

theorem one_add_exp_ne (y : EReal) : 1 + Ideal.exp y ≠ 0 :=
  ne_of_gt (lt_of_lt_of_le zero_lt_one (le_add_of_nonneg_right (exp_nonneg y)))

/-- The kernel multiplies by the reciprocal where the reference divides: the divisor is never zero. -/
theorem silu_eq (y : EReal) :
    y * Ideal.div 1 (1 + Ideal.exp (0 - y)) = Ideal.div y (1 + Ideal.exp (-y)) := by
  rw [zero_sub, Ideal.div, Ideal.div, if_neg (one_add_exp_ne _), if_neg (one_add_exp_ne _), one_mul]

/-- What the last grid point does to an accumulator, entry by entry. -/
theorem last_apply (A : Vec Ideal S512x4096 .f32) (ix : S512x4096.Idx) :
    k0_pay2 A ix = Ideal.div (A ix) (1 + Ideal.exp (-(A ix))) := by
  rw [← silu_eq, ← bits_one, ← bits_zero]
  have hs : shapeCast S512x4096 A shapeCasts_S512x4096_S512x4096 = A := shapeCast_self _ _
  unfold k0_pay2
  rw [hs]
  rfl

/-! ## One block's product -/

/-- The whole input and the whole weights, by coordinates. -/
abbrev Whole (a b : ℕ) : Type := (⟨2, ![a, b]⟩ : Shape).Idx → EReal

/-- Entry `(r, n)` of the whole product. -/
def prod (X : Whole 8192 8192) (W : Whole 8192 4096) (r : Fin 8192) (n : Fin 4096) : EReal :=
  ∑ k : Fin 8192, X (ix2 r k) * W (ix2 k n)

/-- Row (or contracted position) `r` of block `j`. -/
def at512 (j : Fin 16) (r : Fin 512) : Fin 8192 := ⟨j.val * 512 + r.val, by omega⟩

theorem mac_apply (B : Vec Ideal S512x512 .bf16) (W A : Vec Ideal S512x4096 .f32) (r : Fin 512) (n : Fin 4096) :
    mac B W A (ix2 r n) = A (ix2 r n) + ∑ k : Fin 512, B (ix2 r k) * W (ix2 k n) := by
  refine congrArg (A (ix2 r n) + ·) ((Ideal.matmul_plain_apply (M := 512) (K := 512) (N := 4096) none B
    (truncf .bf16 W bitsLt_bf16_f32) (constant S512x4096 .f32 0x00000000#32) r n).trans ?_)
  exact (congrArg (· + _) bits_zero).trans (zero_add _)

theorem wB_apply (w : main_arg1.ty.Contents (Elt Ideal)) (j : Dev nD) (k : Fin 512) (n : Fin 4096) :
    wB w j (ix2 k n) = (w : Whole 8192 4096) (ix2 (at512 j k) n) := by
  refine congrArg (w : Whole 8192 4096) (funext fun a => ?_)
  match a with
  | ⟨0, _⟩ => rfl
  | ⟨1, _⟩ => rfl

variable (X : Whole 8192 8192)

/-- Every device holds its column block of the whole input. -/
abbrev Cut (xs : Dev nD → main_arg0.ty.Contents (Elt Ideal)) : Prop :=
  ∀ c, xs c = Layout.block ⟨2, ![8192, 512]⟩ ⟨2, ![8192, 8192]⟩ 1 16 c X

/-- The block device `j` sends to device `c` is block `(c, j)` of the whole input. -/
theorem blk_apply {xs : Dev nD → main_arg0.ty.Contents (Elt Ideal)} (hx : Cut X xs) (j c : Dev nD) (r k : Fin 512) :
    blk xs j c (ix2 r k) = X (ix2 (at512 c r) (at512 j k)) := by
  have e : blk xs j c (ix2 r k) = xs j ((blkR c).emb (ix2 r k)) := rfl
  rw [e, hx j, Layout.block_apply]
  refine congrArg X (funext fun a => Fin.ext ?_)
  match a with
  | ⟨0, _⟩ =>
    show c.val * 512 + 1 * r.val = c.val * 512 + r.val
    omega
  | ⟨1, _⟩ =>
    show j.val * 512 + (0 + 1 * k.val) = j.val * 512 + k.val
    omega

/-! ## The sum over the blocks -/

/-- What block `j` contributes to entry `(r, n)` of device `c`'s accumulator. -/
def part (W : Whole 8192 4096) (c j : Fin 16) (r : Fin 512) (n : Fin 4096) : EReal :=
  ∑ k : Fin 512, X (ix2 (at512 c r) (at512 j k)) * W (ix2 (at512 j k) n)

theorem acc_apply {xs : Dev nD → main_arg0.ty.Contents (Elt Ideal)} (hx : Cut X xs) (w : main_arg1.ty.Contents (Elt Ideal))
    (c : Dev nD) (r : Fin 512) (n : Fin 4096) (k : ℕ) :
    acc xs w c k (ix2 r n) = ∑ i ∈ Finset.range k, part X w c (ord c i) r n := by
  induction k with
  | zero => exact bits_zero.trans (Finset.sum_range_zero _).symm
  | succ k ih =>
    rw [Finset.sum_range_succ, ← ih]
    refine (mac_apply _ _ _ r n).trans (congrArg (_ + ·) (Finset.sum_congr rfl fun q _ => ?_))
    rw [blk_apply X hx, wB_apply]

/-- The blocks, each once, make up the whole contraction. -/
theorem parts_sum (W : Whole 8192 4096) (c : Fin 16) (r : Fin 512) (n : Fin 4096) :
    ∑ j : Fin 16, part X W c j r n = prod X W (at512 c r) n := by
  unfold part prod
  rw [← Finset.sum_product', Finset.univ_product_univ]
  refine Fintype.sum_equiv (finProdFinEquiv (m := 16) (n := 512)) _ _ fun p => ?_
  have e : at512 p.1 p.2 = (finProdFinEquiv (m := 16) (n := 512) p : Fin 8192) := by
    apply Fin.ext
    show p.1.val * 512 + p.2.val = p.2.val + 512 * p.1.val
    omega
  rw [e]

/-- Visited in the device's own order they add up to the same. -/
theorem acc_all {xs : Dev nD → main_arg0.ty.Contents (Elt Ideal)} (hx : Cut X xs) (w : main_arg1.ty.Contents (Elt Ideal))
    (c : Dev nD) (r : Fin 512) (n : Fin 4096) : acc xs w c 16 (ix2 r n) = prod X w (at512 c r) n := by
  rw [acc_apply X hx, Finset.sum_range, ← parts_sum]
  exact (ord_bij c).sum_comp (fun j => part X w c j r n)

/-! ## The reference -/

/-- The reference's result: the whole product, each entry divided by one plus the exponential of its negative. -/
def refRes (X : Whole 8192 8192) (W : Whole 8192 4096) : Whole 8192 4096 := fun ix =>
  Ideal.div (prod X W (ix 0) (ix 1)) (1 + Ideal.exp (-(prod X W (ix 0) (ix 1))))

theorem dot_apply (W : Whole 8192 4096) (ix : (⟨2, ![8192, 4096]⟩ : Shape).Idx) :
    Ideal.matmul Cert.SiluIdeal.dot_S8192x8192_S8192x4096_S8192x4096_1_0_0_1_n_n X W (fun _ => 0) ix
      = prod X W (ix 0) (ix 1) := by
  rw [eq_ix2 ix]
  exact (Ideal.matmul_plain_apply (M := 8192) (K := 8192) (N := 4096) (φ₁ := .f32) (φ₂ := .f32) none X W (fun _ => 0) (ix 0) (ix 1)).trans (zero_add _)

/-- The composed term of the reference's run is that. -/
theorem ref_term (W : Whole 8192 4096) :
    (Host.divf (F := Ideal) (φ := .f32) (Host.dotGeneral (F := Ideal) (φ₁ := .f32) (φ₂ := .f32) Cert.SiluIdeal.dot_S8192x8192_S8192x4096_S8192x4096_1_0_0_1_n_n none X W)
      (addf (broadcastInDim Cert.SiluIdeal.S8192x4096 ![] Cert.SiluIdeal.Facts₀.bcast_S_S8192x4096 (constant Cert.SiluIdeal.S_ .f32 0x3F800000#32))
        (Host.exp (Host.negf (Host.dotGeneral (F := Ideal) (φ₁ := .f32) (φ₂ := .f32) Cert.SiluIdeal.dot_S8192x8192_S8192x4096_S8192x4096_1_0_0_1_n_n none X W))))) = refRes X W := by
  funext ix
  show Ideal.div (Ideal.matmul _ X W (fun _ => 0) ix) (Ideal.ofBits .f32 0x3F800000#32 + Ideal.exp (-(Ideal.matmul _ X W (fun _ => 0) ix))) = _
  rw [bits_one, dot_apply]
  rfl

/-- A device's result is its row block of the reference's. -/
theorem res_eq {xs : Dev nD → main_arg0.ty.Contents (Elt Ideal)} (hx : Cut X xs) (w : main_arg1.ty.Contents (Elt Ideal)) (c : Dev nD) :
    res xs w c = Layout.block ⟨2, ![512, 4096]⟩ ⟨2, ![8192, 4096]⟩ 0 16 c (refRes X w) := by
  funext ix
  have e : acc xs w c 16 ix = prod X w (at512 c (ix 0)) (ix 1) :=
    (congrArg (acc xs w c 16) (eq_ix2 (n0 := 512) (n1 := 4096) ix)).trans (acc_all X hx w c (ix 0) (ix 1))
  refine (last_apply (acc xs w c 16) ix).trans ?_
  rw [e, Layout.block_apply]
  rfl

/-! ## The claims -/

theorem frame_silu : Cert.quiescent_SiluIdeal := fun m ρ _ =>
  (θ_run Cert.SiluIdeal.defs _ _).mono (fun r h => ⟨fun c => (h c).2, sem_eq_zero_of_no_sems (by decide) r.2⟩)
    (Cert.SiluIdeal.Value.run m ρ)

/-- **The kernel computes the product through the activation**: every device its row block. -/
theorem algebraic_silu : Cert.algebraic_KernelIdeal_SiluIdeal := by
  intro m g m' g' _ hag
  refine ⟨refRes _ _, (θ_run defs _ _).mono (fun r h c => ?_) (run_main (F := Ideal) m g),
    (θ_run Cert.SiluIdeal.defs _ _).mono (fun r h => ⟨(h 0).1.trans (ref_term _ _), (h 0).2⟩) (Cert.SiluIdeal.Value.run m' g')⟩
  obtain ⟨h0, h1, h2⟩ := h.1 c
  refine ⟨?_, h0, h1⟩
  refine h2.trans ((res_eq _ (fun d => (hag d).1) (wsOf m c) c).trans ?_)
  rw [show wsOf m c = _ from (hag c).2]

end Cert.KernelIdeal.A2A

end
-- ==== Proof.Clip.lean ====
/-
  The kernel's result against the reference with its clip: equal wherever the product lies between the clip's bounds.
-/
module

public import proofs.«01_k».proof.Proof.Value
public import proofs.«01_k».proof.Proof.Gen.ReferenceIdeal
public import proofs.«01_k».proof.Proof.Gen.ReferenceIdeal.Run
public import proofs.«01_k».proof.Proof.Gen.On_unclipped

@[expose] public section

set_option maxRecDepth 16384

noncomputable section

namespace Cert.KernelIdeal.A2A

open Idealize.ShloMosaic
open Idealize.ShloMosaic.TcCoe
open Idealize.ShloMosaic.ValueIdx
open Idealize.SL.Sem
open Cert.KernelIdeal Cert.KernelIdeal.Gen

variable (X : Whole 8192 8192) (W : Whole 8192 4096)

/-- The clip's bounds, as the reference and the mask both spell them. -/
def lo : EReal := Ideal.ofBits .f32 0xC2700000#32
def hi : EReal := Ideal.ofBits .f32 0x42700000#32

/-- The reference's result: the exponent is of the product clipped. -/
def clipRes : Whole 8192 4096 := fun ix =>
  Ideal.div (prod X W (ix 0) (ix 1)) (1 + Ideal.exp (-(min hi (max lo (prod X W (ix 0) (ix 1))))))

/-- The composed term of the reference's run is that. -/
theorem clip_term :
    (Host.divf (F := Ideal) (φ := .f32) (Host.dotGeneral (F := Ideal) (φ₁ := .f32) (φ₂ := .f32) Cert.ReferenceIdeal.dot_S8192x8192_S8192x4096_S8192x4096_1_0_0_1_n_n none X W)
      (addf (broadcastInDim Cert.ReferenceIdeal.S8192x4096 ![] Cert.ReferenceIdeal.Facts₀.bcast_S_S8192x4096 (constant Cert.ReferenceIdeal.S_ .f32 0x3F800000#32))
        (Host.exp (Host.negf (minimumf (broadcastInDim Cert.ReferenceIdeal.S8192x4096 ![] Cert.ReferenceIdeal.Facts₀.bcast_S_S8192x4096 (id (constant Cert.ReferenceIdeal.S_ .f32 0x42700000#32)))
          (maximumf (broadcastInDim Cert.ReferenceIdeal.S8192x4096 ![] Cert.ReferenceIdeal.Facts₀.bcast_S_S8192x4096 (id (constant Cert.ReferenceIdeal.S_ .f32 0xC2700000#32)))
            (Host.dotGeneral (F := Ideal) (φ₁ := .f32) (φ₂ := .f32) Cert.ReferenceIdeal.dot_S8192x8192_S8192x4096_S8192x4096_1_0_0_1_n_n none X W))))))) = clipRes X W := by
  funext ix
  show Ideal.div (Ideal.matmul _ X W (fun _ => 0) ix)
    (Ideal.ofBits .f32 0x3F800000#32 + Ideal.exp (-(min hi (max lo (Ideal.matmul _ X W (fun _ => 0) ix))))) = _
  rw [bits_one]
  exact congrArg (fun y : EReal => Ideal.div y (1 + Ideal.exp (-(min hi (max lo y))))) (dot_apply X W ix)

/-- Two comparisons, both true when the conjunction of their bits is set. -/
theorem both_of_and {p q : Prop} [Decidable p] [Decidable q]
    (h : BitVec.ofBool (decide p) &&& BitVec.ofBool (decide q) = 1#1) : p ∧ q := by
  by_cases hp : p <;> by_cases hq : q <;> simp_all

/-- Where the mask is set the product lies between the bounds. -/
theorem mask_apply (ix : (⟨2, ![8192, 4096]⟩ : Shape).Idx) (h : Cert.On_unclipped.fn (F := Ideal) X W ix = 1#1) :
    lo ≤ prod X W (ix 0) (ix 1) ∧ prod X W (ix 0) (ix 1) ≤ hi := by
  have e : Cert.On_unclipped.fn (F := Ideal) X W ix
      = Ideal.cmp .oge (Ideal.matmul Cert.SiluIdeal.dot_S8192x8192_S8192x4096_S8192x4096_1_0_0_1_n_n X W (fun _ => 0) ix) lo
        &&& Ideal.cmp .ole (Ideal.matmul Cert.SiluIdeal.dot_S8192x8192_S8192x4096_S8192x4096_1_0_0_1_n_n X W (fun _ => 0) ix) hi := rfl
  rw [e, dot_apply] at h
  exact both_of_and h

/-- There the clip does nothing. -/
theorem clip_eq (ix : (⟨2, ![8192, 4096]⟩ : Shape).Idx) (h : Cert.On_unclipped.fn (F := Ideal) X W ix = 1#1) :
    refRes X W ix = clipRes X W ix := by
  obtain ⟨h1, h2⟩ := mask_apply X W ix h
  unfold refRes clipRes
  rw [max_eq_right h1, min_eq_right h2]

/-! ## The claims -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- **The kernel computes the reference with its clip** at every element the clip leaves alone. -/
theorem algebraic_clip : Cert.algebraic_KernelIdeal_ReferenceIdeal_on_unclipped := by
  intro m g m' g' _ hag
  refine ⟨clipRes _ _, (θ_run defs _ _).mono (fun r h c => ?_) (run_main (F := Ideal) m g),
    (θ_run Cert.ReferenceIdeal.defs _ _).mono (fun r h => ⟨fun i _ => congrFun ((h 0).1.trans (clip_term _ _)) i, (h 0).2⟩) (Cert.ReferenceIdeal.Value.run m' g')⟩
  obtain ⟨h0, h1, h2⟩ := h.1 c
  refine ⟨fun i hi => ?_, h0, h1⟩
  have e := h2.trans (res_eq _ (fun d => (hag d).1) (wsOf m c) c)
  rw [show wsOf m c = _ from (hag c).2] at e
  exact (congrFun e i).trans (clip_eq _ _ _ hi)

end Cert.KernelIdeal.A2A

end
-- ==== Proof.lean ====
/-
  The claims, put together: the run of the kernel's program gives its frame at both readings of the floats, and the value
  of its result against the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.On_unclipped
public import proofs.«01_k».proof.Proof.Clip

@[expose] public section

noncomputable section

namespace Cert.Proof

theorem claim : Cert.Claim :=
  ⟨Cert.Kernel.Gen.facts, Cert.KernelIdeal.Gen.facts, Cert.ReferenceIdeal.Gen.facts, Cert.SiluIdeal.Gen.facts, Cert.On_unclipped.Gen.facts,
    Cert.KernelIdeal.A2A.frame_bits, Cert.KernelIdeal.A2A.frame_ideal, Cert.KernelIdeal.A2A.frame_reference,
    Cert.KernelIdeal.A2A.frame_silu, trivial, Cert.KernelIdeal.A2A.algebraic_silu, Cert.KernelIdeal.A2A.algebraic_clip⟩

end Cert.Proof

end
